-- ==== Defs.lean ====
def Pre_SwaKernel (m : (ℓ : Loc Cert.SwaKernel.nD Cert.SwaKernel.τ Cert.SwaKernel.sig) → Buf (Elt Bits) ℓ) : Prop :=
  True

def Pre_SwaKernelIdeal (m : (ℓ : Loc Cert.SwaKernelIdeal.nD Cert.SwaKernelIdeal.τ Cert.SwaKernelIdeal.sig) → Buf (Elt Ideal) ℓ) : Prop :=
  True

def Pre_SwaReferenceIdeal (m : (ℓ : Loc Cert.SwaReferenceIdeal.nD Cert.SwaReferenceIdeal.τ Cert.SwaReferenceIdeal.sig) → Buf (Elt Ideal) ℓ) : Prop :=
  True

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_finite [hPre_finite : Cert.Pre_finite.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_finite [hPre_finite : Cert.Pre_finite.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3))) = (fun _ => 1#1)

def Pre_KeysKernel (m : (ℓ : Loc Cert.KeysKernel.nD Cert.KeysKernel.τ Cert.KeysKernel.sig) → Buf (Elt Bits) ℓ) : Prop :=
  True

def Pre_KeysKernelIdeal (m : (ℓ : Loc Cert.KeysKernelIdeal.nD Cert.KeysKernelIdeal.τ Cert.KeysKernelIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def quiescent_SwaKernel [hSwaKernel : Cert.SwaKernel.Facts] : Prop :=
  ∀ (m : (ℓ : Loc Cert.SwaKernel.nD Cert.SwaKernel.τ Cert.SwaKernel.sig) → Buf (Elt Bits) ℓ) (g : Dev Cert.SwaKernel.nD → PrngReg), Pre_SwaKernel m →
    θ_run (Cert.SwaKernel.defs (F := Bits)) (onTc (τ := Cert.SwaKernel.τ) (Cert.SwaKernel.main (F := Bits))) ⟨m, fun _ => 0, g⟩ (fun r => (∀ c : Dev Cert.SwaKernel.nD,
      r.2.mem ((c.tc : Thread Cert.SwaKernel.nD Cert.SwaKernel.τ).loc Cert.SwaKernel.main_arg0) = m ((c.tc : Thread Cert.SwaKernel.nD Cert.SwaKernel.τ).loc Cert.SwaKernel.main_arg0)
      ∧ r.2.mem ((c.tc : Thread Cert.SwaKernel.nD Cert.SwaKernel.τ).loc Cert.SwaKernel.main_arg1) = m ((c.tc : Thread Cert.SwaKernel.nD Cert.SwaKernel.τ).loc Cert.SwaKernel.main_arg1)
      ∧ r.2.mem ((c.tc : Thread Cert.SwaKernel.nD Cert.SwaKernel.τ).loc Cert.SwaKernel.main_arg2) = m ((c.tc : Thread Cert.SwaKernel.nD Cert.SwaKernel.τ).loc Cert.SwaKernel.main_arg2)
      ∧ r.2.mem ((c.tc : Thread Cert.SwaKernel.nD Cert.SwaKernel.τ).loc Cert.SwaKernel.main_arg3) = m ((c.tc : Thread Cert.SwaKernel.nD Cert.SwaKernel.τ).loc Cert.SwaKernel.main_arg3))
      ∧ r.2.sem = fun _ => 0)

def quiescent_SwaKernelIdeal [hSwaKernelIdeal : Cert.SwaKernelIdeal.Facts] : Prop :=
  ∀ (m : (ℓ : Loc Cert.SwaKernelIdeal.nD Cert.SwaKernelIdeal.τ Cert.SwaKernelIdeal.sig) → Buf (Elt Ideal) ℓ) (g : Dev Cert.SwaKernelIdeal.nD → PrngReg), Pre_SwaKernelIdeal m →
    θ_run (Cert.SwaKernelIdeal.defs (F := Ideal)) (onTc (τ := Cert.SwaKernelIdeal.τ) (Cert.SwaKernelIdeal.main (F := Ideal))) ⟨m, fun _ => 0, g⟩ (fun r => (∀ c : Dev Cert.SwaKernelIdeal.nD,
      r.2.mem ((c.tc : Thread Cert.SwaKernelIdeal.nD Cert.SwaKernelIdeal.τ).loc Cert.SwaKernelIdeal.main_arg0) = m ((c.tc : Thread Cert.SwaKernelIdeal.nD Cert.SwaKernelIdeal.τ).loc Cert.SwaKernelIdeal.main_arg0)
      ∧ r.2.mem ((c.tc : Thread Cert.SwaKernelIdeal.nD Cert.SwaKernelIdeal.τ).loc Cert.SwaKernelIdeal.main_arg1) = m ((c.tc : Thread Cert.SwaKernelIdeal.nD Cert.SwaKernelIdeal.τ).loc Cert.SwaKernelIdeal.main_arg1)
      ∧ r.2.mem ((c.tc : Thread Cert.SwaKernelIdeal.nD Cert.SwaKernelIdeal.τ).loc Cert.SwaKernelIdeal.main_arg2) = m ((c.tc : Thread Cert.SwaKernelIdeal.nD Cert.SwaKernelIdeal.τ).loc Cert.SwaKernelIdeal.main_arg2)
      ∧ r.2.mem ((c.tc : Thread Cert.SwaKernelIdeal.nD Cert.SwaKernelIdeal.τ).loc Cert.SwaKernelIdeal.main_arg3) = m ((c.tc : Thread Cert.SwaKernelIdeal.nD Cert.SwaKernelIdeal.τ).loc Cert.SwaKernelIdeal.main_arg3))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2)
      ∧ r.2.mem ((c.tc : Thread Cert.SwaReferenceIdeal.nD Cert.SwaReferenceIdeal.τ).loc Cert.SwaReferenceIdeal.main_arg3) = m ((c.tc : Thread Cert.SwaReferenceIdeal.nD Cert.SwaReferenceIdeal.τ).loc Cert.SwaReferenceIdeal.main_arg3))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5)
      ∧ r.2.mem ((c.tc : Thread Cert.MlpKernel.nD Cert.MlpKernel.τ).loc Cert.MlpKernel.main_arg6) = m ((c.tc : Thread Cert.MlpKernel.nD Cert.MlpKernel.τ).loc Cert.MlpKernel.main_arg6)
      ∧ r.2.mem ((c.tc : Thread Cert.MlpKernel.nD Cert.MlpKernel.τ).loc Cert.MlpKernel.main_arg7) = m ((c.tc : Thread Cert.MlpKernel.nD Cert.MlpKernel.τ).loc Cert.MlpKernel.main_arg7)
      ∧ r.2.mem ((c.tc : Thread Cert.MlpKernel.nD Cert.MlpKernel.τ).loc Cert.MlpKernel.main_arg8) = m ((c.tc : Thread Cert.MlpKernel.nD Cert.MlpKernel.τ).loc Cert.MlpKernel.main_arg8)
      ∧ r.2.mem ((c.tc : Thread Cert.MlpKernel.nD Cert.MlpKernel.τ).loc Cert.MlpKernel.main_arg9) = m ((c.tc : Thread Cert.MlpKernel.nD Cert.MlpKernel.τ).loc Cert.MlpKernel.main_arg9)
      ∧ r.2.mem ((c.tc : Thread Cert.MlpKernel.nD Cert.MlpKernel.τ).loc Cert.MlpKernel.main_arg10) = m ((c.tc : Thread Cert.MlpKernel.nD Cert.MlpKernel.τ).loc Cert.MlpKernel.main_arg10)
      ∧ r.2.mem ((c.tc : Thread Cert.MlpKernel.nD Cert.MlpKernel.τ).loc Cert.MlpKernel.main_arg11) = m ((c.tc : Thread Cert.MlpKernel.nD Cert.MlpKernel.τ).loc Cert.MlpKernel.main_arg11)
      ∧ r.2.mem ((c.tc : Thread Cert.MlpKernel.nD Cert.MlpKernel.τ).loc Cert.MlpKernel.main_arg12) = m ((c.tc : Thread Cert.MlpKernel.nD Cert.MlpKernel.τ).loc Cert.MlpKernel.main_arg12))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7)
      ∧ r.2.mem ((c.tc : Thread Cert.MlpKernelIdeal.nD Cert.MlpKernelIdeal.τ).loc Cert.MlpKernelIdeal.main_arg8) = m ((c.tc : Thread Cert.MlpKernelIdeal.nD Cert.MlpKernelIdeal.τ).loc Cert.MlpKernelIdeal.main_arg8)
      ∧ r.2.mem ((c.tc : Thread Cert.MlpKernelIdeal.nD Cert.MlpKernelIdeal.τ).loc Cert.MlpKernelIdeal.main_arg9) = m ((c.tc : Thread Cert.MlpKernelIdeal.nD Cert.MlpKernelIdeal.τ).loc Cert.MlpKernelIdeal.main_arg9)
      ∧ r.2.mem ((c.tc : Thread Cert.MlpKernelIdeal.nD Cert.MlpKernelIdeal.τ).loc Cert.MlpKernelIdeal.main_arg10) = m ((c.tc : Thread Cert.MlpKernelIdeal.nD Cert.MlpKernelIdeal.τ).loc Cert.MlpKernelIdeal.main_arg10)
      ∧ r.2.mem ((c.tc : Thread Cert.MlpKernelIdeal.nD Cert.MlpKernelIdeal.τ).loc Cert.MlpKernelIdeal.main_arg11) = m ((c.tc : Thread Cert.MlpKernelIdeal.nD Cert.MlpKernelIdeal.τ).loc Cert.MlpKernelIdeal.main_arg11)
      ∧ r.2.mem ((c.tc : Thread Cert.MlpKernelIdeal.nD Cert.MlpKernelIdeal.τ).loc Cert.MlpKernelIdeal.main_arg12) = m ((c.tc : Thread Cert.MlpKernelIdeal.nD Cert.MlpKernelIdeal.τ).loc Cert.MlpKernelIdeal.main_arg12))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolKernelIdeal_pre_finite [hPoolKernelIdeal : Cert.PoolKernelIdeal.Facts] [hPre_finite : Cert.Pre_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_finite m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_PoolReferenceIdeal_pre_finite [hPoolReferenceIdeal : Cert.PoolReferenceIdeal.Facts] [hPre_finite : Cert.Pre_finite.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_finite m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_KeysKernel [hKeysKernel : Cert.KeysKernel.Facts] : Prop :=
  ∀ (m : (ℓ : Loc Cert.KeysKernel.nD Cert.KeysKernel.τ Cert.KeysKernel.sig) → Buf (Elt Bits) ℓ) (g : Dev Cert.KeysKernel.nD → PrngReg), Pre_KeysKernel m →
    θ_run (Cert.KeysKernel.defs (F := Bits)) (onTc (τ := Cert.KeysKernel.τ) (Cert.KeysKernel.main (F := Bits))) ⟨m, fun _ => 0, g⟩ (fun r => (∀ c : Dev Cert.KeysKernel.nD,
      r.2.mem ((c.tc : Thread Cert.KeysKernel.nD Cert.KeysKernel.τ).loc Cert.KeysKernel.main_arg0) = m ((c.tc : Thread Cert.KeysKernel.nD Cert.KeysKernel.τ).loc Cert.KeysKernel.main_arg0)
      ∧ r.2.mem ((c.tc : Thread Cert.KeysKernel.nD Cert.KeysKernel.τ).loc Cert.KeysKernel.main_arg1) = m ((c.tc : Thread Cert.KeysKernel.nD Cert.KeysKernel.τ).loc Cert.KeysKernel.main_arg1)
      ∧ r.2.mem ((c.tc : Thread Cert.KeysKernel.nD Cert.KeysKernel.τ).loc Cert.KeysKernel.main_arg2) = m ((c.tc : Thread Cert.KeysKernel.nD Cert.KeysKernel.τ).loc Cert.KeysKernel.main_arg2)
      ∧ r.2.mem ((c.tc : Thread Cert.KeysKernel.nD Cert.KeysKernel.τ).loc Cert.KeysKernel.main_arg3) = m ((c.tc : Thread Cert.KeysKernel.nD Cert.KeysKernel.τ).loc Cert.KeysKernel.main_arg3))
      ∧ r.2.sem = fun _ => 0)

def quiescent_KeysKernelIdeal [hKeysKernelIdeal : Cert.KeysKernelIdeal.Facts] : Prop :=
  ∀ (m : (ℓ : Loc Cert.KeysKernelIdeal.nD Cert.KeysKernelIdeal.τ Cert.KeysKernelIdeal.sig) → Buf (Elt Ideal) ℓ) (g : Dev Cert.KeysKernelIdeal.nD → PrngReg), Pre_KeysKernelIdeal m →
    θ_run (Cert.KeysKernelIdeal.defs (F := Ideal)) (onTc (τ := Cert.KeysKernelIdeal.τ) (Cert.KeysKernelIdeal.main (F := Ideal))) ⟨m, fun _ => 0, g⟩ (fun r => (∀ c : Dev Cert.KeysKernelIdeal.nD,
      r.2.mem ((c.tc : Thread Cert.KeysKernelIdeal.nD Cert.KeysKernelIdeal.τ).loc Cert.KeysKernelIdeal.main_arg0) = m ((c.tc : Thread Cert.KeysKernelIdeal.nD Cert.KeysKernelIdeal.τ).loc Cert.KeysKernelIdeal.main_arg0)
      ∧ r.2.mem ((c.tc : Thread Cert.KeysKernelIdeal.nD Cert.KeysKernelIdeal.τ).loc Cert.KeysKernelIdeal.main_arg1) = m ((c.tc : Thread Cert.KeysKernelIdeal.nD Cert.KeysKernelIdeal.τ).loc Cert.KeysKernelIdeal.main_arg1)
      ∧ r.2.mem ((c.tc : Thread Cert.KeysKernelIdeal.nD Cert.KeysKernelIdeal.τ).loc Cert.KeysKernelIdeal.main_arg2) = m ((c.tc : Thread Cert.KeysKernelIdeal.nD Cert.KeysKernelIdeal.τ).loc Cert.KeysKernelIdeal.main_arg2)
      ∧ r.2.mem ((c.tc : Thread Cert.KeysKernelIdeal.nD Cert.KeysKernelIdeal.τ).loc Cert.KeysKernelIdeal.main_arg3) = m ((c.tc : Thread Cert.KeysKernelIdeal.nD Cert.KeysKernelIdeal.τ).loc Cert.KeysKernelIdeal.main_arg3))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2)
      ∧ r.2.mem ((c.tc : Thread Cert.KeysReferenceIdeal.nD Cert.KeysReferenceIdeal.τ).loc Cert.KeysReferenceIdeal.main_arg3) = m ((c.tc : Thread Cert.KeysReferenceIdeal.nD Cert.KeysReferenceIdeal.τ).loc Cert.KeysReferenceIdeal.main_arg3))
      ∧ r.2.sem = fun _ => 0)

def preserves_SwaKernel_SwaKernelIdeal : Prop :=
  IdealRules.named_const.Statement Cert.SwaKernelIdeal.κ "mask" .f32 0xF149F2CA#32 ⊥

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)
      ∧ m' ((c.tc : Thread Cert.MlpReferenceIdeal.nD Cert.MlpReferenceIdeal.τ).loc Cert.MlpReferenceIdeal.main_arg5) = m ((c.tc : Thread Cert.MlpKernelIdeal.nD Cert.MlpKernelIdeal.τ).loc Cert.MlpKernelIdeal.main_arg5)
      ∧ m' ((c.tc : Thread Cert.MlpReferenceIdeal.nD Cert.MlpReferenceIdeal.τ).loc Cert.MlpReferenceIdeal.main_arg6) = m ((c.tc : Thread Cert.MlpKernelIdeal.nD Cert.MlpKernelIdeal.τ).loc Cert.MlpKernelIdeal.main_arg6)
      ∧ m' ((c.tc : Thread Cert.MlpReferenceIdeal.nD Cert.MlpReferenceIdeal.τ).loc Cert.MlpReferenceIdeal.main_arg7) = m ((c.tc : Thread Cert.MlpKernelIdeal.nD Cert.MlpKernelIdeal.τ).loc Cert.MlpKernelIdeal.main_arg7)
      ∧ m' ((c.tc : Thread Cert.MlpReferenceIdeal.nD Cert.MlpReferenceIdeal.τ).loc Cert.MlpReferenceIdeal.main_arg8) = m ((c.tc : Thread Cert.MlpKernelIdeal.nD Cert.MlpKernelIdeal.τ).loc Cert.MlpKernelIdeal.main_arg8)
      ∧ m' ((c.tc : Thread Cert.MlpReferenceIdeal.nD Cert.MlpReferenceIdeal.τ).loc Cert.MlpReferenceIdeal.main_arg9) = m ((c.tc : Thread Cert.MlpKernelIdeal.nD Cert.MlpKernelIdeal.τ).loc Cert.MlpKernelIdeal.main_arg9)
      ∧ m' ((c.tc : Thread Cert.MlpReferenceIdeal.nD Cert.MlpReferenceIdeal.τ).loc Cert.MlpReferenceIdeal.main_arg10) = m ((c.tc : Thread Cert.MlpKernelIdeal.nD Cert.MlpKernelIdeal.τ).loc Cert.MlpKernelIdeal.main_arg10)
      ∧ m' ((c.tc : Thread Cert.MlpReferenceIdeal.nD Cert.MlpReferenceIdeal.τ).loc Cert.MlpReferenceIdeal.main_arg11) = m ((c.tc : Thread Cert.MlpKernelIdeal.nD Cert.MlpKernelIdeal.τ).loc Cert.MlpKernelIdeal.main_arg11)
      ∧ m' ((c.tc : Thread Cert.MlpReferenceIdeal.nD Cert.MlpReferenceIdeal.τ).loc Cert.MlpReferenceIdeal.main_arg12) = m ((c.tc : Thread Cert.MlpKernelIdeal.nD Cert.MlpKernelIdeal.τ).loc Cert.MlpKernelIdeal.main_arg12)) →
    ∃ (v0 : (c : Dev Cert.MlpKernelIdeal.nD) → Buf (Elt Ideal) ((c.tc : Thread Cert.MlpKernelIdeal.nD Cert.MlpKernelIdeal.τ).loc Cert.MlpKernelIdeal.main_v32)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v32) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
          ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
          ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7)
          ∧ r.2.mem ((c.tc : Thread Cert.MlpKernelIdeal.nD Cert.MlpKernelIdeal.τ).loc Cert.MlpKernelIdeal.main_arg8) = m ((c.tc : Thread Cert.MlpKernelIdeal.nD Cert.MlpKernelIdeal.τ).loc Cert.MlpKernelIdeal.main_arg8)
          ∧ r.2.mem ((c.tc : Thread Cert.MlpKernelIdeal.nD Cert.MlpKernelIdeal.τ).loc Cert.MlpKernelIdeal.main_arg9) = m ((c.tc : Thread Cert.MlpKernelIdeal.nD Cert.MlpKernelIdeal.τ).loc Cert.MlpKernelIdeal.main_arg9)
          ∧ r.2.mem ((c.tc : Thread Cert.MlpKernelIdeal.nD Cert.MlpKernelIdeal.τ).loc Cert.MlpKernelIdeal.main_arg10) = m ((c.tc : Thread Cert.MlpKernelIdeal.nD Cert.MlpKernelIdeal.τ).loc Cert.MlpKernelIdeal.main_arg10)
          ∧ r.2.mem ((c.tc : Thread Cert.MlpKernelIdeal.nD Cert.MlpKernelIdeal.τ).loc Cert.MlpKernelIdeal.main_arg11) = m ((c.tc : Thread Cert.MlpKernelIdeal.nD Cert.MlpKernelIdeal.τ).loc Cert.MlpKernelIdeal.main_arg11)
          ∧ r.2.mem ((c.tc : Thread Cert.MlpKernelIdeal.nD Cert.MlpKernelIdeal.τ).loc Cert.MlpKernelIdeal.main_arg12) = m ((c.tc : Thread Cert.MlpKernelIdeal.nD Cert.MlpKernelIdeal.τ).loc Cert.MlpKernelIdeal.main_arg12))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v72) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9)
          ∧ r.2.mem ((c.tc : Thread Cert.MlpReferenceIdeal.nD Cert.MlpReferenceIdeal.τ).loc Cert.MlpReferenceIdeal.main_arg10) = m' ((c.tc : Thread Cert.MlpReferenceIdeal.nD Cert.MlpReferenceIdeal.τ).loc Cert.MlpReferenceIdeal.main_arg10)
          ∧ r.2.mem ((c.tc : Thread Cert.MlpReferenceIdeal.nD Cert.MlpReferenceIdeal.τ).loc Cert.MlpReferenceIdeal.main_arg11) = m' ((c.tc : Thread Cert.MlpReferenceIdeal.nD Cert.MlpReferenceIdeal.τ).loc Cert.MlpReferenceIdeal.main_arg11)
          ∧ r.2.mem ((c.tc : Thread Cert.MlpReferenceIdeal.nD Cert.MlpReferenceIdeal.τ).loc Cert.MlpReferenceIdeal.main_arg12) = m' ((c.tc : Thread Cert.MlpReferenceIdeal.nD Cert.MlpReferenceIdeal.τ).loc Cert.MlpReferenceIdeal.main_arg12))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v21_0)) (v1 : (c : Dev Cert.InKernelIdeal.nD) → Buf (Elt Ideal) ((c.tc : Thread Cert.InKernelIdeal.nD Cert.InKernelIdeal.τ).loc Cert.InKernelIdeal.main_v21_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v21_0) = v0 c
          ∧ r.2.mem ((c.tc : Thread Cert.InKernelIdeal.nD Cert.InKernelIdeal.τ).loc Cert.InKernelIdeal.main_v21_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v90) = v0 c
          ∧ r.2.mem ((c.tc : Thread Cert.InReferenceIdeal.nD Cert.InReferenceIdeal.τ).loc Cert.InReferenceIdeal.main_v88) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_PoolKernel_PoolKernelIdeal : Prop :=
  True

def algebraic_PoolKernelIdeal_PoolReferenceIdeal_pre_finite [hPoolKernelIdeal : Cert.PoolKernelIdeal.Facts] [hPoolReferenceIdeal : Cert.PoolReferenceIdeal.Facts] [hPre_finite : Cert.Pre_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_finite m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)) →
    ∃ (v0 : (c : Dev Cert.PoolKernelIdeal.nD) → Buf (Elt Ideal) ((c.tc : Thread Cert.PoolKernelIdeal.nD Cert.PoolKernelIdeal.τ).loc Cert.PoolKernelIdeal.main_v20)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v20) = v0 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v65) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_KeysKernel_KeysKernelIdeal : Prop :=
  IdealRules.named_const.Statement Cert.KeysKernelIdeal.κ "mask" .f32 0xF149F2CA#32 ⊥

def algebraic_KeysKernelIdeal_KeysReferenceIdeal [hKeysKernelIdeal : Cert.KeysKernelIdeal.Facts] [hKeysReferenceIdeal : Cert.KeysReferenceIdeal.Facts] : Prop :=
  ∀ (m : (ℓ : Loc Cert.KeysKernelIdeal.nD Cert.KeysKernelIdeal.τ Cert.KeysKernelIdeal.sig) → Buf (Elt Ideal) ℓ) (g : Dev Cert.KeysKernelIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysKernelIdeal m →
    (∀ c : Dev Cert.KeysKernelIdeal.nD,
      m' ((c.tc : Thread Cert.KeysReferenceIdeal.nD Cert.KeysReferenceIdeal.τ).loc Cert.KeysReferenceIdeal.main_arg0) = m ((c.tc : Thread Cert.KeysKernelIdeal.nD Cert.KeysKernelIdeal.τ).loc Cert.KeysKernelIdeal.main_arg0)
      ∧ m' ((c.tc : Thread Cert.KeysReferenceIdeal.nD Cert.KeysReferenceIdeal.τ).loc Cert.KeysReferenceIdeal.main_arg1) = m ((c.tc : Thread Cert.KeysKernelIdeal.nD Cert.KeysKernelIdeal.τ).loc Cert.KeysKernelIdeal.main_arg1)
      ∧ m' ((c.tc : Thread Cert.KeysReferenceIdeal.nD Cert.KeysReferenceIdeal.τ).loc Cert.KeysReferenceIdeal.main_arg2) = m ((c.tc : Thread Cert.KeysKernelIdeal.nD Cert.KeysKernelIdeal.τ).loc Cert.KeysKernelIdeal.main_arg2)
      ∧ m' ((c.tc : Thread Cert.KeysReferenceIdeal.nD Cert.KeysReferenceIdeal.τ).loc Cert.KeysReferenceIdeal.main_arg3) = m ((c.tc : Thread Cert.KeysKernelIdeal.nD Cert.KeysKernelIdeal.τ).loc Cert.KeysKernelIdeal.main_arg3)) →
    ∃ (v0 : (c : Dev Cert.KeysKernelIdeal.nD) → Buf (Elt Ideal) ((c.tc : Thread Cert.KeysKernelIdeal.nD Cert.KeysKernelIdeal.τ).loc Cert.KeysKernelIdeal.main_v50_1)),
      θ_run (Cert.KeysKernelIdeal.defs (F := Ideal)) (onTc (τ := Cert.KeysKernelIdeal.τ) (Cert.KeysKernelIdeal.main (F := Ideal))) ⟨m, fun _ => 0, g⟩ (fun r => ∀ c : Dev Cert.KeysKernelIdeal.nD,
          r.2.mem ((c.tc : Thread Cert.KeysKernelIdeal.nD Cert.KeysKernelIdeal.τ).loc Cert.KeysKernelIdeal.main_v50_1) = v0 c
          ∧ r.2.mem ((c.tc : Thread Cert.KeysKernelIdeal.nD Cert.KeysKernelIdeal.τ).loc Cert.KeysKernelIdeal.main_arg0) = m ((c.tc : Thread Cert.KeysKernelIdeal.nD Cert.KeysKernelIdeal.τ).loc Cert.KeysKernelIdeal.main_arg0)
          ∧ r.2.mem ((c.tc : Thread Cert.KeysKernelIdeal.nD Cert.KeysKernelIdeal.τ).loc Cert.KeysKernelIdeal.main_arg1) = m ((c.tc : Thread Cert.KeysKernelIdeal.nD Cert.KeysKernelIdeal.τ).loc Cert.KeysKernelIdeal.main_arg1)
          ∧ r.2.mem ((c.tc : Thread Cert.KeysKernelIdeal.nD Cert.KeysKernelIdeal.τ).loc Cert.KeysKernelIdeal.main_arg2) = m ((c.tc : Thread Cert.KeysKernelIdeal.nD Cert.KeysKernelIdeal.τ).loc Cert.KeysKernelIdeal.main_arg2)
          ∧ r.2.mem ((c.tc : Thread Cert.KeysKernelIdeal.nD Cert.KeysKernelIdeal.τ).loc Cert.KeysKernelIdeal.main_arg3) = m ((c.tc : Thread Cert.KeysKernelIdeal.nD Cert.KeysKernelIdeal.τ).loc Cert.KeysKernelIdeal.main_arg3))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v38) = v0 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1)
          ∧ r.2.mem ((c.tc : Thread Cert.KeysReferenceIdeal.nD Cert.KeysReferenceIdeal.τ).loc Cert.KeysReferenceIdeal.main_arg2) = m' ((c.tc : Thread Cert.KeysReferenceIdeal.nD Cert.KeysReferenceIdeal.τ).loc Cert.KeysReferenceIdeal.main_arg2)
          ∧ r.2.mem ((c.tc : Thread Cert.KeysReferenceIdeal.nD Cert.KeysReferenceIdeal.τ).loc Cert.KeysReferenceIdeal.main_arg3) = m' ((c.tc : Thread Cert.KeysReferenceIdeal.nD Cert.KeysReferenceIdeal.τ).loc Cert.KeysReferenceIdeal.main_arg3))

def Claim : Prop :=
  ∃ (hSwaKernel : Cert.SwaKernel.Facts) (hSwaKernelIdeal : Cert.SwaKernelIdeal.Facts) (hSwaReferenceIdeal : Cert.SwaReferenceIdeal.Facts) (hMlpKernel : Cert.MlpKernel.Facts) (hMlpKernelIdeal : Cert.MlpKernelIdeal.Facts) (hMlpReferenceIdeal : Cert.MlpReferenceIdeal.Facts) (hInKernel : Cert.InKernel.Facts) (hInKernelIdeal : Cert.InKernelIdeal.Facts) (hInReferenceIdeal : Cert.InReferenceIdeal.Facts) (hPoolKernel : Cert.PoolKernel.Facts) (hPoolKernelIdeal : Cert.PoolKernelIdeal.Facts) (hPoolReferenceIdeal : Cert.PoolReferenceIdeal.Facts) (hKeysKernel : Cert.KeysKernel.Facts) (hKeysKernelIdeal : Cert.KeysKernelIdeal.Facts) (hKeysReferenceIdeal : Cert.KeysReferenceIdeal.Facts) (hPre_finite : Cert.Pre_finite.Facts),
    quiescent_SwaKernel (hSwaKernel := hSwaKernel)
    ∧ quiescent_SwaKernelIdeal (hSwaKernelIdeal := hSwaKernelIdeal)
    ∧ quiescent_SwaReferenceIdeal (hSwaReferenceIdeal := hSwaReferenceIdeal)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_PoolKernel (hPoolKernel := hPoolKernel)
    ∧ quiescent_PoolKernelIdeal (hPoolKernelIdeal := hPoolKernelIdeal)
    ∧ quiescent_PoolKernelIdeal_pre_finite (hPoolKernelIdeal := hPoolKernelIdeal) (hPre_finite := hPre_finite)
    ∧ quiescent_PoolReferenceIdeal (hPoolReferenceIdeal := hPoolReferenceIdeal)
    ∧ quiescent_PoolReferenceIdeal_pre_finite (hPoolReferenceIdeal := hPoolReferenceIdeal) (hPre_finite := hPre_finite)
    ∧ quiescent_KeysKernel (hKeysKernel := hKeysKernel)
    ∧ quiescent_KeysKernelIdeal (hKeysKernelIdeal := hKeysKernelIdeal)
    ∧ quiescent_KeysReferenceIdeal (hKeysReferenceIdeal := hKeysReferenceIdeal)
    ∧ preserves_SwaKernel_SwaKernelIdeal
    ∧ preserves_MlpKernel_MlpKernelIdeal
    ∧ algebraic_MlpKernelIdeal_MlpReferenceIdeal (hMlpKernelIdeal := hMlpKernelIdeal) (hMlpReferenceIdeal := hMlpReferenceIdeal)
    ∧ preserves_InKernel_InKernelIdeal
    ∧ algebraic_InKernelIdeal_InReferenceIdeal (hInKernelIdeal := hInKernelIdeal) (hInReferenceIdeal := hInReferenceIdeal)
    ∧ preserves_PoolKernel_PoolKernelIdeal
    ∧ algebraic_PoolKernelIdeal_PoolReferenceIdeal_pre_finite (hPoolKernelIdeal := hPoolKernelIdeal) (hPoolReferenceIdeal := hPoolReferenceIdeal) (hPre_finite := hPre_finite)
    ∧ preserves_KeysKernel_KeysKernelIdeal
    ∧ algebraic_KeysKernelIdeal_KeysReferenceIdeal (hKeysKernelIdeal := hKeysKernelIdeal) (hKeysReferenceIdeal := hKeysReferenceIdeal)
-- ==== Pre_finite.lean ====
abbrev S4x8192x6408 : Shape := ⟨3, ![4, 8192, 6408]⟩
abbrev S16x512 : Shape := ⟨2, ![16, 512]⟩
abbrev S4x128x128 : Shape := ⟨3, ![4, 128, 128]⟩
abbrev S512 : Shape := ⟨1, ![512]⟩
abbrev S4x8192x512 : Shape := ⟨3, ![4, 8192, 512]⟩
abbrev S_ : Shape := ⟨0, ![]⟩

class Facts : Prop where
  slices_S4x8192x6408_S4x8192x512_0_0_0 : S4x8192x6408.Slices ![0, 0, 0] S4x8192x512
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S4x8192x6408 .f32) (main_arg1 : FVec F S16x512 .f32) (main_arg2 : FVec F S4x128x128 .f32) (main_arg3 : FVec F S512 .f32) : IVec S_ 1 :=
  let main_v0 : FVec F S4x8192x512 .f32 := (extractStridedSlice S4x8192x512 ![0, 0, 0] · slices_S4x8192x6408_S4x8192x512_0_0_0) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_c : IVec S_ 1 := constantI S_ 1 1#1
  let main_v4 : IVec S_ 1 := (fun x v => Host.reduce IntOp.andi x v reducesTo_S4x8192x512_S_d0_1_2 h_S_) main_v3 main_c
  let main_v5 : FVec F S16x512 .f32 := Host.absf main_arg1
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_c_1 : IVec S_ 1 := constantI S_ 1 1#1
  let main_v8 : IVec S_ 1 := (fun x v => Host.reduce IntOp.andi x v reducesTo_S16x512_S_d0_1 h_S_) main_v7 main_c_1
  let main_v9 : IVec S_ 1 := andi main_v4 main_v8
  main_v9
-- ==== SwaKernel.lean ====
abbrev S4x8192x6408 : Shape := ⟨3, ![4, 8192, 6408]⟩
abbrev S16x128 : Shape := ⟨2, ![16, 128]⟩
abbrev S8 : Shape := ⟨1, ![8]⟩
abbrev S_ : Shape := ⟨0, ![]⟩
abbrev S128x256 : Shape := ⟨2, ![128, 256]⟩
abbrev S1 : Shape := ⟨1, ![1]⟩
abbrev S2 : Shape := ⟨1, ![2]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S4x8192x120 : Shape := ⟨3, ![4, 8192, 120]⟩
abbrev S4x8192x3072 : Shape := ⟨3, ![4, 8192, 3072]⟩
abbrev S4x8192x1536 : Shape := ⟨3, ![4, 8192, 1536]⟩
abbrev S4x8192x512 : Shape := ⟨3, ![4, 8192, 512]⟩
abbrev S4x8192x256 : Shape := ⟨3, ![4, 8192, 256]⟩
abbrev S4x8192x8 : Shape := ⟨3, ![4, 8192, 8]⟩
abbrev S4x8192x6528 : Shape := ⟨3, ![4, 8192, 6528]⟩
abbrev S4x128x128 : Shape := ⟨3, ![4, 128, 128]⟩
abbrev S4x128x512 : Shape := ⟨3, ![4, 128, 512]⟩
abbrev S4x128x256 : Shape := ⟨3, ![4, 128, 256]⟩
abbrev S128x128 : Shape := ⟨2, ![128, 128]⟩
abbrev S4x4x256x128 : Shape := ⟨4, ![4, 4, 256, 128]⟩
abbrev S1x1x128x128 : Shape := ⟨4, ![1, 1, 128, 128]⟩
abbrev S4x4x128x128 : Shape := ⟨4, ![4, 4, 128, 128]⟩
abbrev S1x128x512 : Shape := ⟨3, ![1, 128, 512]⟩
abbrev S128x512 : Shape := ⟨2, ![128, 512]⟩
abbrev S1x128x256 : Shape := ⟨3, ![1, 128, 256]⟩
abbrev S1x128x128 : Shape := ⟨3, ![1, 128, 128]⟩
abbrev S1x1x256x128 : Shape := ⟨4, ![1, 1, 256, 128]⟩
abbrev S256x128 : Shape := ⟨2, ![256, 128]⟩
abbrev S128 : Shape := ⟨1, ![128]⟩
abbrev S128x1 : Shape := ⟨2, ![128, 1]⟩

abbrev nBuf : Space → Nat
  | .hbm => 65
  | .vmem => 14
  | .smem => 1
  | _ => 0

abbrev bufTy : (tb : Table) → Fin (tcTables nBuf tb) → BufTy
  | .hbm, ⟨0, _⟩ => ⟨S4x8192x6408, .f32⟩
  | .hbm, ⟨1, _⟩ => ⟨S16x128, .f32⟩
  | .hbm, ⟨2, _⟩ => ⟨S16x128, .f32⟩
  | .hbm, ⟨3, _⟩ => ⟨S8, .f32⟩
  | .hbm, ⟨4, _⟩ => ⟨S_, .f32⟩
  | .hbm, ⟨5, _⟩ => ⟨S128x256, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S128x256, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S128x256, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S1x8192x1x32, .f32⟩
  | .hbm, ⟨39, _⟩ => ⟨S1x8192x4x32, .f32⟩
  | .hbm, ⟨40, _⟩ => ⟨S8192x128, .f32⟩
  | .hbm, ⟨41, _⟩ => ⟨S8192x32, .f32⟩
  | .hbm, ⟨42, _⟩ => ⟨S8192x64, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S_, .bf16⟩
  | .hbm, ⟨47, _⟩ => ⟨S4x8192x120, .bf16⟩
  | .hbm, ⟨48, _⟩ => ⟨S4x8192x3072, .f32⟩
  | .hbm, ⟨49, _⟩ => ⟨S4x8192x3072, .bf16⟩
  | .hbm, ⟨50, _⟩ => ⟨S4x8192x1536, .f32⟩
  | .hbm, ⟨51, _⟩ => ⟨S4x8192x1536, .bf16⟩
  | .hbm, ⟨52, _⟩ => ⟨S4x8192x512, .f32⟩
  | .hbm, ⟨53, _⟩ => ⟨S4x8192x512, .bf16⟩
  | .hbm, ⟨54, _⟩ => ⟨S4x8192x512, .f32⟩
  | .hbm, ⟨55, _⟩ => ⟨S4x8192x512, .bf16⟩
  | .hbm, ⟨56, _⟩ => ⟨S4x8192x512, .f32⟩
  | .hbm, ⟨57, _⟩ => ⟨S4x8192x512, .bf16⟩
  | .hbm, ⟨58, _⟩ => ⟨S4x8192x256, .f32⟩
  | .hbm, ⟨59, _⟩ => ⟨S4x8192x256, .bf16⟩
  | .hbm, ⟨60, _⟩ => ⟨S4x8192x8, .f32⟩
  | .hbm, ⟨61, _⟩ => ⟨S4x8192x8, .bf16⟩
  | .hbm, ⟨62, _⟩ => ⟨S4x8192x6528, .bf16⟩
  | .hbm, ⟨63, _⟩ => ⟨S4x8192x512, .bf16⟩
  | .hbm, ⟨64, _⟩ => ⟨S4x128x128, .f32⟩
  | .local _ .vmem, ⟨0, _⟩ => ⟨S4x128x512, .bf16⟩
  | .local _ .vmem, ⟨1, _⟩ => ⟨S4x128x512, .bf16⟩
  | .local _ .vmem, ⟨2, _⟩ => ⟨S4x128x256, .bf16⟩
  | .local _ .vmem, ⟨3, _⟩ => ⟨S4x128x256, .bf16⟩
  | .local _ .vmem, ⟨4, _⟩ => ⟨S128x256, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S4x128x512, .bf16⟩
  | .local _ .vmem, ⟨10, _⟩ => ⟨S4x128x512, .bf16⟩
  | .local _ .vmem, ⟨11, _⟩ => ⟨S4x128x128, .f32⟩
  | .local _ .vmem, ⟨12, _⟩ => ⟨S4x4x256x128, .bf16⟩
  | .local _ .vmem, ⟨13, _⟩ => ⟨S4x4x256x128, .bf16⟩
  | .local _ .smem, ⟨0, _⟩ => ⟨S8, .f32⟩
  | _, _ => ⟨S4x8192x6408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50_0 : Ref sig .tc := ⟨.hbm, 63, rfl⟩
abbrev main_v50_1 : Ref sig .tc := ⟨.hbm, 64, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== SwaKernelIdeal.lean ====
variable {F : FTy → Type} [FloatOps F] [Named F]
def κ : String → Option EReal := fun
  | "mask" => some ⊥
  | _ => none
-- ==== SwaReferenceIdeal.lean ====
abbrev S4x8192x6408 : Shape := ⟨3, ![4, 8192, 6408]⟩
abbrev S16x128 : Shape := ⟨2, ![16, 128]⟩
abbrev S8 : Shape := ⟨1, ![8]⟩
abbrev S8192 : Shape := ⟨1, ![8192]⟩
abbrev S_ : Shape := ⟨0, ![]⟩
abbrev S4x8192x640 : Shape := ⟨3, ![4, 8192, 640]⟩
abbrev S4x8192x10x64 : Shape := ⟨4, ![4, 8192, 10, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S4x8192x10x32 : Shape := ⟨4, ![4, 8192, 10, 32]⟩
abbrev S4x8192x8x64 : Shape := ⟨4, ![4, 8192, 8, 64]⟩
abbrev S4x8192x2x64 : Shape := ⟨4, ![4, 8192, 2, 64]⟩
abbrev S4x8192x128 : Shape := ⟨3, ![4, 8192, 128]⟩
abbrev S256x128x2x4x64 : Shape := ⟨5, ![256, 128, 2, 4, 64]⟩
abbrev S1x16x2x64 : Shape := ⟨4, ![1, 16, 2, 64]⟩
abbrev S4x16x2x64 : Shape := ⟨4, ![4, 16, 2, 64]⟩
abbrev S4x8208x2x64 : Shape := ⟨4, ![4, 8208, 2, 64]⟩
abbrev S4x8320x2x64 : Shape := ⟨4, ![4, 8320, 2, 64]⟩
abbrev S4x65x128x2x64 : Shape := ⟨5, ![4, 65, 128, 2, 64]⟩
abbrev S4x64x128x2x64 : Shape := ⟨5, ![4, 64, 128, 2, 64]⟩
abbrev S4x64x256x2x64 : Shape := ⟨5, ![4, 64, 256, 2, 64]⟩
abbrev S256x256x2x64 : Shape := ⟨4, ![256, 256, 2, 64]⟩
abbrev S256x2x256x128x4 : Shape := ⟨5, ![256, 2, 256, 128, 4]⟩
abbrev S256x2x4x128x256 : Shape := ⟨5, ![256, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x128x256 : Shape := ⟨4, ![1, 64, 128, 256]⟩
abbrev S4x64x128x256 : Shape := ⟨4, ![4, 64, 128, 256]⟩
abbrev S256x128x256 : Shape := ⟨3, ![256, 128, 256]⟩
abbrev S2x4 : Shape := ⟨2, ![2, 4]⟩
abbrev S1x2x4x1x1 : Shape := ⟨5, ![1, 2, 4, 1, 1]⟩
abbrev S256x1x1x128x256 : Shape := ⟨5, ![256, 1, 1, 128, 256]⟩
abbrev S256x2x4x128 : Shape := ⟨4, ![256, 2, 4, 128]⟩
abbrev S256x2x4x128x1 : Shape := ⟨5, ![256, 2, 4, 128, 1]⟩
abbrev S256x2x64x4x128 : Shape := ⟨5, ![256, 2, 64, 4, 128]⟩
abbrev S4x8192x512 : Shape := ⟨3, ![4, 8192, 512]⟩
abbrev S4x128x2x64 : Shape := ⟨4, ![4, 128, 2, 64]⟩
abbrev S4x128x128 : Shape := ⟨3, ![4, 128, 128]⟩

abbrev nBuf : Space → Nat
  | .hbm => 149
  | .vmem => 0
  | .smem => 0
  | _ => 0

abbrev hbmTy0_0 (i : Nat) : BufTy := match i % 128 with
  | 0 => ⟨S4x8192x6408, .f32⟩
  | 1 => ⟨S16x128, .f32⟩
  | 2 => ⟨S16x128, .f32⟩
  | 3 => ⟨S8, .f32⟩
  | 4 => ⟨S8192, .i32⟩
  | 5 => ⟨S_, .i32⟩
  | 6 => ⟨S8192, .i32⟩
  | 7 => ⟨S8192, .i32⟩
  | 8 => ⟨S4x8192x640, .f32⟩
  | 9 => ⟨S4x8192x10x64, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S8192, .f32⟩
  | 19 => ⟨S8192x1, .f32⟩
  | 20 => ⟨S1x32, .f32⟩
  | 21 => ⟨S8192x32, .f32⟩
  | 22 => ⟨S8192x32, .f32⟩
  | 23 => ⟨S8192x32, .f32⟩
  | 24 => ⟨S8192x32, .f32⟩
  | 25 => ⟨S1x8192x1x32, .f32⟩
  | 26 => ⟨S8192x32, .f32⟩
  | 27 => ⟨S1x8192x1x32, .f32⟩
  | 28 => ⟨S4x8192x10x32, .f32⟩
  | 29 => ⟨S4x8192x10x32, .f32⟩
  | 30 => ⟨S4x8192x10x32, .f32⟩
  | 31 => ⟨S4x8192x10x32, .f32⟩
  | 32 => ⟨S4x8192x10x32, .f32⟩
  | 33 => ⟨S4x8192x10x32, .f32⟩
  | 34 => ⟨S4x8192x10x32, .f32⟩
  | 35 => ⟨S4x8192x10x32, .f32⟩
  | 36 => ⟨S4x8192x10x32, .f32⟩
  | 37 => ⟨S4x8192x10x32, .f32⟩
  | 38 => ⟨S4x8192x10x32, .f32⟩
  | 39 => ⟨S4x8192x10x32, .f32⟩
  | 40 => ⟨S4x8192x10x64, .f32⟩
  | 41 => ⟨S4x8192x8x64, .f32⟩
  | 42 => ⟨S4x8192x2x64, .f32⟩
  | 43 => ⟨S4x8192x128, .f32⟩
  | 44 => ⟨S4x8192x2x64, .f32⟩
  | 45 => ⟨S256x128x2x4x64, .f32⟩
  | 46 => ⟨S1x16x2x64, .f32⟩
  | 47 => ⟨S4x16x2x64, .f32⟩
  | 48 => ⟨S4x8208x2x64, .f32⟩
  | 49 => ⟨S_, .i32⟩
  | 50 => ⟨S_, .f32⟩
  | 51 => ⟨S4x8320x2x64, .f32⟩
  | 52 => ⟨S4x65x128x2x64, .f32⟩
  | 53 => ⟨S1x16x2x64, .f32⟩
  | 54 => ⟨S4x16x2x64, .f32⟩
  | 55 => ⟨S4x8208x2x64, .f32⟩
  | 56 => ⟨S_, .i32⟩
  | 57 => ⟨S_, .f32⟩
  | 58 => ⟨S4x8320x2x64, .f32⟩
  | 59 => ⟨S4x65x128x2x64, .f32⟩
  | 60 => ⟨S4x64x128x2x64, .f32⟩
  | 61 => ⟨S4x64x128x2x64, .f32⟩
  | 62 => ⟨S4x64x256x2x64, .f32⟩
  | 63 => ⟨S256x256x2x64, .f32⟩
  | 64 => ⟨S4x64x128x2x64, .f32⟩
  | 65 => ⟨S4x64x128x2x64, .f32⟩
  | 66 => ⟨S4x64x256x2x64, .f32⟩
  | 67 => ⟨S256x256x2x64, .f32⟩
  | 68 => ⟨S256x2x256x128x4, .f32⟩
  | 69 => ⟨S256x2x4x128x256, .f32⟩
  | 70 => ⟨S_, .f32⟩
  | 71 => ⟨S256x2x4x128x256, .f32⟩
  | 72 => ⟨S256x2x4x128x256, .f32⟩
  | 73 => ⟨S128, .i32⟩
  | 74 => ⟨S128x1, .i32⟩
  | 75 => ⟨S256, .i32⟩
  | 76 => ⟨S1x256, .i32⟩
  | 77 => ⟨S128x256, .i32⟩
  | 78 => ⟨S128x256, .i32⟩
  | 79 => ⟨S128x256, .i32⟩
  | 80 => ⟨S_, .i32⟩
  | 81 => ⟨S128x256, .i32⟩
  | 82 => ⟨S128x256, .i32⟩
  | 83 => ⟨S64, .i32⟩
  | 84 => ⟨S_, .i32⟩
  | 85 => ⟨S64, .i32⟩
  | 86 => ⟨S64, .i32⟩
  | 87 => ⟨S64x1x1, .i32⟩
  | 88 => ⟨S_, .i32⟩
  | 89 => ⟨S64x1x1, .i32⟩
  | 90 => ⟨S64x1x1, .i32⟩
  | 91 => ⟨S1x1x256, .i32⟩
  | 92 => ⟨S64x1x256, .i32⟩
  | 93 => ⟨S64x1x256, .i32⟩
  | 94 => ⟨S64x1x256, .i32⟩
  | 95 => ⟨S_, .i32⟩
  | 96 => ⟨S64x1x256, .i32⟩
  | 97 => ⟨S64x1x256, .i32⟩
  | 98 => ⟨S_, .i32⟩
  | 99 => ⟨S64x1x256, .i32⟩
  | 100 => ⟨S64x1x256, .i32⟩
  | 101 => ⟨S_, .i32⟩
  | 102 => ⟨S128x256, .i32⟩
  | 103 => ⟨S128x256, .i1⟩
  | 104 => ⟨S_, .i32⟩
  | 105 => ⟨S128x256, .i32⟩
  | 106 => ⟨S128x256, .i1⟩
  | 107 => ⟨S128x256, .i1⟩
  | 108 => ⟨S_, .i32⟩
  | 109 => ⟨S64x1x256, .i32⟩
  | 110 => ⟨S64x1x256, .i1⟩
  | 111 => ⟨S1x128x256, .i1⟩
  | 112 => ⟨S64x128x256, .i1⟩
  | 113 => ⟨S64x128x256, .i1⟩
  | 114 => ⟨S64x128x256, .i1⟩
  | 115 => ⟨S1x64x128x256, .i1⟩
  | 116 => ⟨S4x64x128x256, .i1⟩
  | 117 => ⟨S256x128x256, .i1⟩
  | 118 => ⟨S2x4, .f32⟩
  | 119 => ⟨S1x2x4x1x1, .f32⟩
  | 120 => ⟨S256x1x1x128x256, .i1⟩
  | 121 => ⟨S_, .f32⟩
  | 122 => ⟨S_, .f32⟩
  | 123 => ⟨S256x2x4x128x256, .i1⟩
  | 124 => ⟨S256x2x4x128x256, .f32⟩
  | 125 => ⟨S256x2x4x128x256, .f32⟩
  | 126 => ⟨S_, .f32⟩
  | 127 => ⟨S256x2x4x128, .f32⟩
  | _ => ⟨S4x8192x6408, .f32⟩

abbrev hbmTy0_1 (i : Nat) : BufTy := match i % 128 with
  | 0 => ⟨S256x2x4x128x1, .f32⟩
  | 1 => ⟨S256x2x4x128x1, .f32⟩
  | 2 => ⟨S256x2x4x128x1, .f32⟩
  | 3 => ⟨S256x2x4x128x256, .f32⟩
  | 4 => ⟨S256x2x4x128x256, .f32⟩
  | 5 => ⟨S256x2x4x128x256, .f32⟩
  | 6 => ⟨S_, .f32⟩
  | 7 => ⟨S256x2x4x128, .f32⟩
  | 8 => ⟨S256x2x4x128x1, .f32⟩
  | 9 => ⟨S256x2x4x128x1, .f32⟩
  | 10 => ⟨S256x2x4x128x1, .f32⟩
  | 11 => ⟨S256x2x4x128x1, .f32⟩
  | 12 => ⟨S256x2x4x128x1, .f32⟩
  | 13 => ⟨S256x2x4x128x256, .f32⟩
  | 14 => ⟨S256x2x4x128x256, .f32⟩
  | 15 => ⟨S256x2x64x4x128, .f32⟩
  | 16 => ⟨S256x128x2x4x64, .f32⟩
  | 17 => ⟨S4x8192x512, .f32⟩
  | 18 => ⟨S4x8192x512, .bf16⟩
  | 19 => ⟨S4x128x2x64, .f32⟩
  | 20 => ⟨S4x128x128, .f32⟩
  | _ => ⟨S4x8192x6408, .f32⟩

abbrev hbmTy (i : Nat) : BufTy := match i / 128 with
  | 0 => hbmTy0_0 i
  | 1 => hbmTy0_1 i
  | _ => ⟨S4x8192x6408, .f32⟩

abbrev bufTy : (tb : Table) → Fin (tcTables nBuf tb) → BufTy
  | .hbm, ⟨i, _⟩ => hbmTy i
  | _, _ => ⟨S4x8192x6408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_1 : Ref sig .tc := ⟨.hbm, 49, rfl⟩
abbrev main_call0_v0 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_2 : Ref sig .tc := ⟨.hbm, 56, rfl⟩
abbrev main_call1_v0 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_3 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_c_4 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_c_5 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_c_6 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_c_7 : Ref sig .tc := ⟨.hbm, 95, rfl⟩
abbrev main_v80 : Ref sig .tc := ⟨.hbm, 96, rfl⟩
abbrev main_v81 : Ref sig .tc := ⟨.hbm, 97, rfl⟩
abbrev main_c_8 : Ref sig .tc := ⟨.hbm, 98, rfl⟩
abbrev main_v82 : Ref sig .tc := ⟨.hbm, 99, rfl⟩
abbrev main_v83 : Ref sig .tc := ⟨.hbm, 100, rfl⟩
abbrev main_c_9 : Ref sig .tc := ⟨.hbm, 101, rfl⟩
abbrev main_v84 : Ref sig .tc := ⟨.hbm, 102, rfl⟩
abbrev main_v85 : Ref sig .tc := ⟨.hbm, 103, rfl⟩
abbrev main_c_10 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_c_11 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_12 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v101 : Ref sig .tc := ⟨.hbm, 125, rfl⟩
abbrev main_cst_13 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_14 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩

abbrev nD : Nat := 1
abbrev τ : Topo := Topo.v7x

variable {F : FTy → Type} [FloatOps F]
-- ==== MlpKernel.lean ====
abbrev S4x8192x512 : Shape := ⟨3, ![4, 8192, 512]⟩
abbrev S4x8192x6408 : Shape := ⟨3, ![4, 8192, 6408]⟩
abbrev S4x8192x1024 : Shape := ⟨3, ![4, 8192, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x512 : Shape := ⟨2, ![32768, 512]⟩
abbrev S_ : Shape := ⟨0, ![]⟩
abbrev S4x8192x120 : Shape := ⟨3, ![4, 8192, 120]⟩
abbrev S4x8192x3072 : Shape := ⟨3, ![4, 8192, 3072]⟩
abbrev S4x8192x1536 : Shape := ⟨3, ![4, 8192, 1536]⟩
abbrev S4x8192x256 : Shape := ⟨3, ![4, 8192, 256]⟩
abbrev S4x8192x8 : Shape := ⟨3, ![4, 8192, 8]⟩
abbrev S4x8192x6528 : Shape := ⟨3, ![4, 8192, 6528]⟩
abbrev S32768x6528 : Shape := ⟨2, ![32768, 6528]⟩
abbrev S32768x1024 : Shape := ⟨2, ![32768, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 47
  | .vmem => 24
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x6408, .f32⟩
  | .hbm, ⟨4, _⟩ => ⟨S4x8192x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S4x8192x512, .bf16⟩
  | .hbm, ⟨14, _⟩ => ⟨S32768x512, .bf16⟩
  | .hbm, ⟨15, _⟩ => ⟨S4x8192x512, .bf16⟩
  | .hbm, ⟨16, _⟩ => ⟨S32768x512, .bf16⟩
  | .hbm, ⟨17, _⟩ => ⟨S4x8192x512, .bf16⟩
  | .hbm, ⟨18, _⟩ => ⟨S32768x512, .bf16⟩
  | .hbm, ⟨19, _⟩ => ⟨S_, .bf16⟩
  | .hbm, ⟨20, _⟩ => ⟨S4x8192x120, .bf16⟩
  | .hbm, ⟨21, _⟩ => ⟨S4x8192x3072, .f32⟩
  | .hbm, ⟨22, _⟩ => ⟨S4x8192x3072, .bf16⟩
  | .hbm, ⟨23, _⟩ => ⟨S4x8192x1536, .f32⟩
  | .hbm, ⟨24, _⟩ => ⟨S4x8192x1536, .bf16⟩
  | .hbm, ⟨25, _⟩ => ⟨S4x8192x512, .f32⟩
  | .hbm, ⟨26, _⟩ => ⟨S4x8192x512, .bf16⟩
  | .hbm, ⟨27, _⟩ => ⟨S4x8192x512, .f32⟩
  | .hbm, ⟨28, _⟩ => ⟨S4x8192x512, .bf16⟩
  | .hbm, ⟨29, _⟩ => ⟨S4x8192x512, .f32⟩
  | .hbm, ⟨30, _⟩ => ⟨S4x8192x512, .bf16⟩
  | .hbm, ⟨31, _⟩ => ⟨S4x8192x256, .f32⟩
  | .hbm, ⟨32, _⟩ => ⟨S4x8192x256, .bf16⟩
  | .hbm, ⟨33, _⟩ => ⟨S4x8192x8, .f32⟩
  | .hbm, ⟨34, _⟩ => ⟨S4x8192x8, .bf16⟩
  | .hbm, ⟨35, _⟩ => ⟨S4x8192x6528, .bf16⟩
  | .hbm, ⟨36, _⟩ => ⟨S32768x6528, .bf16⟩
  | .hbm, ⟨37, _⟩ => ⟨S32768x1024, .f32⟩
  | .hbm, ⟨38, _⟩ => ⟨S512x1024, .bf16⟩
  | .hbm, ⟨39, _⟩ => ⟨S512x1024, .bf16⟩
  | .hbm, ⟨40, _⟩ => ⟨S512x1024, .bf16⟩
  | .hbm, ⟨41, _⟩ => ⟨S1024x1024, .bf16⟩
  | .hbm, ⟨42, _⟩ => ⟨S1x1024, .f32⟩
  | .hbm, ⟨43, _⟩ => ⟨S1024x4096, .bf16⟩
  | .hbm, ⟨44, _⟩ => ⟨S4096x1024, .bf16⟩
  | .hbm, ⟨45, _⟩ => ⟨S1x1024, .f32⟩
  | .hbm, ⟨46, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x4096, .bf16⟩
  | .local _ .vmem, ⟨20, _⟩ => ⟨S4096x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MlpReferenceIdeal.lean ====
abbrev S4x8192x512 : Shape := ⟨3, ![4, 8192, 512]⟩
abbrev S4x8192x6408 : Shape := ⟨3, ![4, 8192, 6408]⟩
abbrev S4x8192x1024 : Shape := ⟨3, ![4, 8192, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x8192x4 : Shape := ⟨3, ![4, 8192, 4]⟩
abbrev S4x8192x128 : Shape := ⟨3, ![4, 8192, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S32768x1024 : Shape := ⟨2, ![32768, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x6408, .f32⟩
  | .hbm, ⟨4, _⟩ => ⟨S4x8192x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S4x8192x512, .f32⟩
  | .hbm, ⟨14, _⟩ => ⟨S4x8192x512, .f32⟩
  | .hbm, ⟨15, _⟩ => ⟨S4x8192x512, .f32⟩
  | .hbm, ⟨16, _⟩ => ⟨S4x8192x512, .f32⟩
  | .hbm, ⟨17, _⟩ => ⟨S4x8192x512, .f32⟩
  | .hbm, ⟨18, _⟩ => ⟨S4x8192x4, .f32⟩
  | .hbm, ⟨19, _⟩ => ⟨S4x8192x4, .f32⟩
  | .hbm, ⟨20, _⟩ => ⟨S4x8192x512, .f32⟩
  | .hbm, ⟨21, _⟩ => ⟨S4x8192x128, .f32⟩
  | .hbm, ⟨22, _⟩ => ⟨S4x8192x128, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S_, .f32⟩
  | .hbm, ⟨50, _⟩ => ⟨S4x8192x1024, .f32⟩
  | .hbm, ⟨51, _⟩ => ⟨S4x8192x1024, .f32⟩
  | .hbm, ⟨52, _⟩ => ⟨S_, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S_, .f32⟩
  | .hbm, ⟨68, _⟩ => ⟨S4x8192x1, .f32⟩
  | .hbm, ⟨69, _⟩ => ⟨S4x8192x1, .f32⟩
  | .hbm, ⟨70, _⟩ => ⟨S4x8192x1, .f32⟩
  | .hbm, ⟨71, _⟩ => ⟨S4x8192x1024, .f32⟩
  | .hbm, ⟨72, _⟩ => ⟨S4x8192x1024, .f32⟩
  | .hbm, ⟨73, _⟩ => ⟨S1x1x1024, .f32⟩
  | .hbm, ⟨74, _⟩ => ⟨S4x8192x1024, .f32⟩
  | .hbm, ⟨75, _⟩ => ⟨S4x8192x1024, .f32⟩
  | .hbm, ⟨76, _⟩ => ⟨S4x8192x4096, .f32⟩
  | .hbm, ⟨77, _⟩ => ⟨S_, .f32⟩
  | .hbm, ⟨78, _⟩ => ⟨S4x8192x4096, .f32⟩
  | .hbm, ⟨79, _⟩ => ⟨S4x8192x4096, .f32⟩
  | .hbm, ⟨80, _⟩ => ⟨S4x8192x4096, .f32⟩
  | .hbm, ⟨81, _⟩ => ⟨S4x8192x1024, .f32⟩
  | .hbm, ⟨82, _⟩ => ⟨S4x8192x1024, .f32⟩
  | .hbm, ⟨83, _⟩ => ⟨S4x8192x1024, .f32⟩
  | .hbm, ⟨84, _⟩ => ⟨S_, .f32⟩
  | .hbm, ⟨85, _⟩ => ⟨S4x8192, .f32⟩
  | .hbm, ⟨86, _⟩ => ⟨S4x8192x1, .f32⟩
  | .hbm, ⟨87, _⟩ => ⟨S_, .f32⟩
  | .hbm, ⟨88, _⟩ => ⟨S4x8192x1, .f32⟩
  | .hbm, ⟨89, _⟩ => ⟨S4x8192x1, .f32⟩
  | .hbm, ⟨90, _⟩ => ⟨S_, .f32⟩
  | .hbm, ⟨91, _⟩ => ⟨S4x8192x1, .f32⟩
  | .hbm, ⟨92, _⟩ => ⟨S4x8192x1, .f32⟩
  | .hbm, ⟨93, _⟩ => ⟨S4x8192x1, .f32⟩
  | .hbm, ⟨94, _⟩ => ⟨S4x8192x1024, .f32⟩
  | .hbm, ⟨95, _⟩ => ⟨S4x8192x1024, .f32⟩
  | .hbm, ⟨96, _⟩ => ⟨S1x1x1024, .f32⟩
  | .hbm, ⟨97, _⟩ => ⟨S4x8192x1024, .f32⟩
  | .hbm, ⟨98, _⟩ => ⟨S4x8192x1024, .f32⟩
  | .hbm, ⟨99, _⟩ => ⟨S32768x1024, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call0_cst : Ref sig .tc := ⟨.hbm, 77, rfl⟩
abbrev main_call0_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== InKernel.lean ====
abbrev S4x8192x1024 : Shape := ⟨3, ![4, 8192, 1024]⟩
abbrev S1024 : Shape := ⟨1, ![1024]⟩
abbrev S1024x6408 : Shape := ⟨2, ![1024, 6408]⟩
abbrev S16x1536 : Shape := ⟨2, ![16, 1536]⟩
abbrev S4x1536 : Shape := ⟨2, ![4, 1536]⟩
abbrev S8x1536 : Shape := ⟨2, ![8, 1536]⟩
abbrev S1x8x1536 : Shape := ⟨3, ![1, 8, 1536]⟩
abbrev S4x8x1536 : Shape := ⟨3, ![4, 8, 1536]⟩
abbrev S32768x1024 : Shape := ⟨2, ![32768, 1024]⟩
abbrev S1x1024 : Shape := ⟨2, ![1, 1024]⟩
abbrev S_ : Shape := ⟨0, ![]⟩
abbrev S1024x120 : Shape := ⟨2, ![1024, 120]⟩
abbrev S1024x3072 : Shape := ⟨2, ![1024, 3072]⟩
abbrev S1024x1536 : Shape := ⟨2, ![1024, 1536]⟩
abbrev S1024x512 : Shape := ⟨2, ![1024, 512]⟩
abbrev S1024x256 : Shape := ⟨2, ![1024, 256]⟩
abbrev S1024x8 : Shape := ⟨2, ![1024, 8]⟩
abbrev S1024x6528 : Shape := ⟨2, ![1024, 6528]⟩
abbrev S32768x6528 : Shape := ⟨2, ![32768, 6528]⟩
abbrev S64x8x1536 : Shape := ⟨3, ![64, 8, 1536]⟩
abbrev S512x1024 : Shape := ⟨2, ![512, 1024]⟩
abbrev S512x6528 : Shape := ⟨2, ![512, 6528]⟩
abbrev S520x1536 : Shape := ⟨2, ![520, 1536]⟩
abbrev S512 : Shape := ⟨1, ![512]⟩
abbrev S512x1 : Shape := ⟨2, ![512, 1]⟩
abbrev S512x1536 : Shape := ⟨2, ![512, 1536]⟩
abbrev S1x1536 : Shape := ⟨2, ![1, 1536]⟩
abbrev S512x128 : Shape := ⟨2, ![512, 128]⟩
abbrev S1024x384 : Shape := ⟨2, ![1024, 384]⟩
abbrev S512x384 : Shape := ⟨2, ![512, 384]⟩

abbrev nBuf : Space → Nat
  | .hbm => 29
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6408, .f32⟩
  | .hbm, ⟨3, _⟩ => ⟨S16x1536, .f32⟩
  | .hbm, ⟨4, _⟩ => ⟨S4x1536, .f32⟩
  | .hbm, ⟨5, _⟩ => ⟨S8x1536, .f32⟩
  | .hbm, ⟨6, _⟩ => ⟨S1x8x1536, .f32⟩
  | .hbm, ⟨7, _⟩ => ⟨S4x8x1536, .f32⟩
  | .hbm, ⟨8, _⟩ => ⟨S32768x1024, .f32⟩
  | .hbm, ⟨9, _⟩ => ⟨S1x1024, .f32⟩
  | .hbm, ⟨10, _⟩ => ⟨S_, .bf16⟩
  | .hbm, ⟨11, _⟩ => ⟨S1024x120, .bf16⟩
  | .hbm, ⟨12, _⟩ => ⟨S1024x3072, .f32⟩
  | .hbm, ⟨13, _⟩ => ⟨S1024x3072, .bf16⟩
  | .hbm, ⟨14, _⟩ => ⟨S1024x1536, .f32⟩
  | .hbm, ⟨15, _⟩ => ⟨S1024x1536, .bf16⟩
  | .hbm, ⟨16, _⟩ => ⟨S1024x512, .f32⟩
  | .hbm, ⟨17, _⟩ => ⟨S1024x512, .bf16⟩
  | .hbm, ⟨18, _⟩ => ⟨S1024x512, .f32⟩
  | .hbm, ⟨19, _⟩ => ⟨S1024x512, .bf16⟩
  | .hbm, ⟨20, _⟩ => ⟨S1024x512, .f32⟩
  | .hbm, ⟨21, _⟩ => ⟨S1024x512, .bf16⟩
  | .hbm, ⟨22, _⟩ => ⟨S1024x256, .f32⟩
  | .hbm, ⟨23, _⟩ => ⟨S1024x256, .bf16⟩
  | .hbm, ⟨24, _⟩ => ⟨S1024x8, .f32⟩
  | .hbm, ⟨25, _⟩ => ⟨S1024x8, .bf16⟩
  | .hbm, ⟨26, _⟩ => ⟨S1024x6528, .bf16⟩
  | .hbm, ⟨27, _⟩ => ⟨S32768x6528, .bf16⟩
  | .hbm, ⟨28, _⟩ => ⟨S64x8x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6528, .bf16⟩
  | .local _ .vmem, ⟨4, _⟩ => ⟨S1x8x1536, .f32⟩
  | .local _ .vmem, ⟨5, _⟩ => ⟨S1x8x1536, .f32⟩
  | .local _ .vmem, ⟨6, _⟩ => ⟨S4x1536, .f32⟩
  | .local _ .vmem, ⟨7, _⟩ => ⟨S512x6528, .bf16⟩
  | .local _ .vmem, ⟨8, _⟩ => ⟨S512x6528, .bf16⟩
  | .local _ .vmem, ⟨9, _⟩ => ⟨S1x8x1536, .f32⟩
  | .local _ .vmem, ⟨10, _⟩ => ⟨S1x8x1536, .f32⟩
  | .local _ .vmem, ⟨11, _⟩ => ⟨S520x1536, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6528 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x6528 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InReferenceIdeal.lean ====
abbrev S4x8192x1024 : Shape := ⟨3, ![4, 8192, 1024]⟩
abbrev S1024 : Shape := ⟨1, ![1024]⟩
abbrev S1024x6408 : Shape := ⟨2, ![1024, 6408]⟩
abbrev S16x1536 : Shape := ⟨2, ![16, 1536]⟩
abbrev S4x1536 : Shape := ⟨2, ![4, 1536]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6408 : Shape := ⟨3, ![4, 8192, 6408]⟩
abbrev S4x8192x512 : Shape := ⟨3, ![4, 8192, 512]⟩
abbrev S4x8192x4 : Shape := ⟨3, ![4, 8192, 4]⟩
abbrev S4x8192x128 : Shape := ⟨3, ![4, 8192, 128]⟩
abbrev S4x8192x1536 : Shape := ⟨3, ![4, 8192, 1536]⟩
abbrev S3x1536 : Shape := ⟨2, ![3, 1536]⟩
abbrev S1x3x1536 : Shape := ⟨3, ![1, 3, 1536]⟩
abbrev S4x3x1536 : Shape := ⟨3, ![4, 3, 1536]⟩
abbrev S4x8195x1536 : Shape := ⟨3, ![4, 8195, 1536]⟩
abbrev S1x1536 : Shape := ⟨2, ![1, 1536]⟩
abbrev S1536 : Shape := ⟨1, ![1536]⟩
abbrev S1x1x1536 : Shape := ⟨3, ![1, 1, 1536]⟩
abbrev S4x8192x4x128 : Shape := ⟨4, ![4, 8192, 4, 128]⟩
abbrev S4x8192x4x1 : Shape := ⟨4, ![4, 8192, 4, 1]⟩
abbrev S4x8192x120 : Shape := ⟨3, ![4, 8192, 120]⟩
abbrev S4x8192x6528 : Shape := ⟨3, ![4, 8192, 6528]⟩
abbrev S64x512x1536 : Shape := ⟨3, ![64, 512, 1536]⟩
abbrev S64x8x1536 : Shape := ⟨3, ![64, 8, 1536]⟩
abbrev S32768x6528 : Shape := ⟨2, ![32768, 6528]⟩

abbrev nBuf : Space → Nat
  | .hbm => 113
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6408, .f32⟩
  | .hbm, ⟨3, _⟩ => ⟨S16x1536, .f32⟩
  | .hbm, ⟨4, _⟩ => ⟨S4x1536, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x6408, .f32⟩
  | .hbm, ⟨22, _⟩ => ⟨S4x8192x512, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x4, .f32⟩
  | .hbm, ⟨28, _⟩ => ⟨S4x8192x4, .f32⟩
  | .hbm, ⟨29, _⟩ => ⟨S4x8192x512, .f32⟩
  | .hbm, ⟨30, _⟩ => ⟨S4x8192x128, .f32⟩
  | .hbm, ⟨31, _⟩ => ⟨S4x8192x128, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1536, .f32⟩
  | .hbm, ⟨36, _⟩ => ⟨S3x1536, .f32⟩
  | .hbm, ⟨37, _⟩ => ⟨S1x3x1536, .f32⟩
  | .hbm, ⟨38, _⟩ => ⟨S4x3x1536, .f32⟩
  | .hbm, ⟨39, _⟩ => ⟨S4x8195x1536, .f32⟩
  | .hbm, ⟨40, _⟩ => ⟨S4x8192x1536, .f32⟩
  | .hbm, ⟨41, _⟩ => ⟨S1x1536, .f32⟩
  | .hbm, ⟨42, _⟩ => ⟨S1536, .f32⟩
  | .hbm, ⟨43, _⟩ => ⟨S1x1x1536, .f32⟩
  | .hbm, ⟨44, _⟩ => ⟨S4x8192x1536, .f32⟩
  | .hbm, ⟨45, _⟩ => ⟨S4x8192x1536, .f32⟩
  | .hbm, ⟨46, _⟩ => ⟨S4x8192x1536, .f32⟩
  | .hbm, ⟨47, _⟩ => ⟨S1x1536, .f32⟩
  | .hbm, ⟨48, _⟩ => ⟨S1536, .f32⟩
  | .hbm, ⟨49, _⟩ => ⟨S1x1x1536, .f32⟩
  | .hbm, ⟨50, _⟩ => ⟨S4x8192x1536, .f32⟩
  | .hbm, ⟨51, _⟩ => ⟨S4x8192x1536, .f32⟩
  | .hbm, ⟨52, _⟩ => ⟨S4x8192x1536, .f32⟩
  | .hbm, ⟨53, _⟩ => ⟨S4x8192x1536, .f32⟩
  | .hbm, ⟨54, _⟩ => ⟨S1x1536, .f32⟩
  | .hbm, ⟨55, _⟩ => ⟨S1536, .f32⟩
  | .hbm, ⟨56, _⟩ => ⟨S1x1x1536, .f32⟩
  | .hbm, ⟨57, _⟩ => ⟨S4x8192x1536, .f32⟩
  | .hbm, ⟨58, _⟩ => ⟨S4x8192x1536, .f32⟩
  | .hbm, ⟨59, _⟩ => ⟨S4x8192x1536, .f32⟩
  | .hbm, ⟨60, _⟩ => ⟨S4x8192x1536, .f32⟩
  | .hbm, ⟨61, _⟩ => ⟨S1x1536, .f32⟩
  | .hbm, ⟨62, _⟩ => ⟨S1536, .f32⟩
  | .hbm, ⟨63, _⟩ => ⟨S1x1x1536, .f32⟩
  | .hbm, ⟨64, _⟩ => ⟨S4x8192x1536, .f32⟩
  | .hbm, ⟨65, _⟩ => ⟨S4x8192x1536, .f32⟩
  | .hbm, ⟨66, _⟩ => ⟨S4x8192x1536, .f32⟩
  | .hbm, ⟨67, _⟩ => ⟨S4x8192x1536, .f32⟩
  | .hbm, ⟨68, _⟩ => ⟨S4x8192x1536, .f32⟩
  | .hbm, ⟨69, _⟩ => ⟨S_, .f32⟩
  | .hbm, ⟨70, _⟩ => ⟨S4x8192x1536, .f32⟩
  | .hbm, ⟨71, _⟩ => ⟨S4x8192x1536, .f32⟩
  | .hbm, ⟨72, _⟩ => ⟨S_, .f32⟩
  | .hbm, ⟨73, _⟩ => ⟨S4x8192x1536, .f32⟩
  | .hbm, ⟨74, _⟩ => ⟨S4x8192x1536, .f32⟩
  | .hbm, ⟨75, _⟩ => ⟨S4x8192x1536, .f32⟩
  | .hbm, ⟨76, _⟩ => ⟨S4x8192x512, .f32⟩
  | .hbm, ⟨77, _⟩ => ⟨S4x8192x512, .f32⟩
  | .hbm, ⟨78, _⟩ => ⟨S4x8192x512, .f32⟩
  | .hbm, ⟨79, _⟩ => ⟨S4x8192x4x128, .f32⟩
  | .hbm, ⟨80, _⟩ => ⟨S4x8192x4x128, .f32⟩
  | .hbm, ⟨81, _⟩ => ⟨S_, .f32⟩
  | .hbm, ⟨82, _⟩ => ⟨S4x8192x4, .f32⟩
  | .hbm, ⟨83, _⟩ => ⟨S4x8192x4x1, .f32⟩
  | .hbm, ⟨84, _⟩ => ⟨S_, .f32⟩
  | .hbm, ⟨85, _⟩ => ⟨S4x8192x4x1, .f32⟩
  | .hbm, ⟨86, _⟩ => ⟨S4x8192x4x1, .f32⟩
  | .hbm, ⟨87, _⟩ => ⟨S4x8192x4x1, .f32⟩
  | .hbm, ⟨88, _⟩ => ⟨S4x8192x4x128, .f32⟩
  | .hbm, ⟨89, _⟩ => ⟨S4x8192x4x128, .f32⟩
  | .hbm, ⟨90, _⟩ => ⟨S_, .f32⟩
  | .hbm, ⟨91, _⟩ => ⟨S4x8192x4x128, .f32⟩
  | .hbm, ⟨92, _⟩ => ⟨S4x8192x4x128, .f32⟩
  | .hbm, ⟨93, _⟩ => ⟨S4x8192x4x128, .f32⟩
  | .hbm, ⟨94, _⟩ => ⟨S4x8192x4x128, .f32⟩
  | .hbm, ⟨95, _⟩ => ⟨S_, .f32⟩
  | .hbm, ⟨96, _⟩ => ⟨S4x8192x4, .f32⟩
  | .hbm, ⟨97, _⟩ => ⟨S4x8192x4x1, .f32⟩
  | .hbm, ⟨98, _⟩ => ⟨S_, .f32⟩
  | .hbm, ⟨99, _⟩ => ⟨S4x8192x4x1, .f32⟩
  | .hbm, ⟨100, _⟩ => ⟨S4x8192x4x1, .f32⟩
  | .hbm, ⟨101, _⟩ => ⟨S4x8192x4x1, .f32⟩
  | .hbm, ⟨102, _⟩ => ⟨S4x8192x4x128, .f32⟩
  | .hbm, ⟨103, _⟩ => ⟨S4x8192x4x128, .f32⟩
  | .hbm, ⟨104, _⟩ => ⟨S4x8192x512, .f32⟩
  | .hbm, ⟨105, _⟩ => ⟨S4x8192x512, .f32⟩
  | .hbm, ⟨106, _⟩ => ⟨S_, .f32⟩
  | .hbm, ⟨107, _⟩ => ⟨S4x8192x120, .f32⟩
  | .hbm, ⟨108, _⟩ => ⟨S4x8192x6528, .f32⟩
  | .hbm, ⟨109, _⟩ => ⟨S64x512x1536, .f32⟩
  | .hbm, ⟨110, _⟩ => ⟨S64x8x1536, .f32⟩
  | .hbm, ⟨111, _⟩ => ⟨S32768x6528, .f32⟩
  | .hbm, ⟨112, _⟩ => ⟨S32768x6528, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_2 : Ref sig .tc := ⟨.hbm, 81, rfl⟩
abbrev main_v65 : Ref sig .tc := ⟨.hbm, 82, rfl⟩
abbrev main_v66 : Ref sig .tc := ⟨.hbm, 83, rfl⟩
abbrev main_cst_3 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_4 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_5 : Ref sig .tc := ⟨.hbm, 95, rfl⟩
abbrev main_v76 : Ref sig .tc := ⟨.hbm, 96, rfl⟩
abbrev main_v77 : Ref sig .tc := ⟨.hbm, 97, rfl⟩
abbrev main_cst_6 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_7 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩

abbrev nD : Nat := 1
abbrev τ : Topo := Topo.v7x

variable {F : FTy → Type} [FloatOps F]
-- ==== PoolKernel.lean ====
abbrev S4x8192x6408 : Shape := ⟨3, ![4, 8192, 6408]⟩
abbrev S16x512 : Shape := ⟨2, ![16, 512]⟩
abbrev S4x128x128 : Shape := ⟨3, ![4, 128, 128]⟩
abbrev S512 : Shape := ⟨1, ![512]⟩
abbrev S1x16x512 : Shape := ⟨3, ![1, 16, 512]⟩
abbrev S4x16x512 : Shape := ⟨3, ![4, 16, 512]⟩
abbrev S_ : Shape := ⟨0, ![]⟩
abbrev S4x8192x120 : Shape := ⟨3, ![4, 8192, 120]⟩
abbrev S4x8192x3072 : Shape := ⟨3, ![4, 8192, 3072]⟩
abbrev S4x8192x1536 : Shape := ⟨3, ![4, 8192, 1536]⟩
abbrev S4x8192x512 : Shape := ⟨3, ![4, 8192, 512]⟩
abbrev S4x8192x256 : Shape := ⟨3, ![4, 8192, 256]⟩
abbrev S4x8192x8 : Shape := ⟨3, ![4, 8192, 8]⟩
abbrev S4x8192x6528 : Shape := ⟨3, ![4, 8192, 6528]⟩
abbrev S1x512 : Shape := ⟨2, ![1, 512]⟩
abbrev S1x512x512 : Shape := ⟨3, ![1, 512, 512]⟩
abbrev S1x528x512 : Shape := ⟨3, ![1, 528, 512]⟩
abbrev S1x512x1 : Shape := ⟨3, ![1, 512, 1]⟩
abbrev S1x528x128 : Shape := ⟨3, ![1, 528, 128]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 26
  | .vmem => 9
  | .smem => 0
  | _ => 0

abbrev bufTy : (tb : Table) → Fin (tcTables nBuf tb) → BufTy
  | .hbm, ⟨0, _⟩ => ⟨S4x8192x6408, .f32⟩
  | .hbm, ⟨1, _⟩ => ⟨S16x512, .f32⟩
  | .hbm, ⟨2, _⟩ => ⟨S4x128x128, .f32⟩
  | .hbm, ⟨3, _⟩ => ⟨S512, .f32⟩
  | .hbm, ⟨4, _⟩ => ⟨S1x16x512, .f32⟩
  | .hbm, ⟨5, _⟩ => ⟨S4x16x512, .f32⟩
  | .hbm, ⟨6, _⟩ => ⟨S_, .bf16⟩
  | .hbm, ⟨7, _⟩ => ⟨S4x8192x120, .bf16⟩
  | .hbm, ⟨8, _⟩ => ⟨S4x8192x3072, .f32⟩
  | .hbm, ⟨9, _⟩ => ⟨S4x8192x3072, .bf16⟩
  | .hbm, ⟨10, _⟩ => ⟨S4x8192x1536, .f32⟩
  | .hbm, ⟨11, _⟩ => ⟨S4x8192x1536, .bf16⟩
  | .hbm, ⟨12, _⟩ => ⟨S4x8192x512, .f32⟩
  | .hbm, ⟨13, _⟩ => ⟨S4x8192x512, .bf16⟩
  | .hbm, ⟨14, _⟩ => ⟨S4x8192x512, .f32⟩
  | .hbm, ⟨15, _⟩ => ⟨S4x8192x512, .bf16⟩
  | .hbm, ⟨16, _⟩ => ⟨S4x8192x512, .f32⟩
  | .hbm, ⟨17, _⟩ => ⟨S4x8192x512, .bf16⟩
  | .hbm, ⟨18, _⟩ => ⟨S4x8192x256, .f32⟩
  | .hbm, ⟨19, _⟩ => ⟨S4x8192x256, .bf16⟩
  | .hbm, ⟨20, _⟩ => ⟨S4x8192x8, .f32⟩
  | .hbm, ⟨21, _⟩ => ⟨S4x8192x8, .bf16⟩
  | .hbm, ⟨22, _⟩ => ⟨S4x8192x6528, .bf16⟩
  | .hbm, ⟨23, _⟩ => ⟨S4x128x128, .bf16⟩
  | .hbm, ⟨24, _⟩ => ⟨S1x512, .f32⟩
  | .hbm, ⟨25, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x16x512, .f32⟩
  | .local _ .vmem, ⟨3, _⟩ => ⟨S1x16x512, .f32⟩
  | .local _ .vmem, ⟨4, _⟩ => ⟨S4x128x128, .bf16⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | .local _ .vmem, ⟨8, _⟩ => ⟨S1x528x512, .f32⟩
  | _, _ => ⟨S4x8192x6408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolReferenceIdeal.lean ====
abbrev S4x8192x6408 : Shape := ⟨3, ![4, 8192, 6408]⟩
abbrev S16x512 : Shape := ⟨2, ![16, 512]⟩
abbrev S4x128x128 : Shape := ⟨3, ![4, 128, 128]⟩
abbrev S512 : Shape := ⟨1, ![512]⟩
abbrev S4x8192x512 : Shape := ⟨3, ![4, 8192, 512]⟩
abbrev S15x512 : Shape := ⟨2, ![15, 512]⟩
abbrev S1x15x512 : Shape := ⟨3, ![1, 15, 512]⟩
abbrev S4x15x512 : Shape := ⟨3, ![4, 15, 512]⟩
abbrev S4x8207x512 : Shape := ⟨3, ![4, 8207, 512]⟩
abbrev S_ : Shape := ⟨0, ![]⟩
abbrev S4x8208x512 : Shape := ⟨3, ![4, 8208, 512]⟩
abbrev S8192 : Shape := ⟨1, ![8192]⟩
abbrev S4x8192x128 : Shape := ⟨3, ![4, 8192, 128]⟩
abbrev S1x8192x1 : Shape := ⟨3, ![1, 8192, 1]⟩
abbrev S4x8192x4x128 : Shape := ⟨4, ![4, 8192, 4, 128]⟩
abbrev S4x128x4x8192 : Shape := ⟨4, ![4, 128, 4, 8192]⟩
abbrev S1x1x512 : Shape := ⟨3, ![1, 1, 512]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x6408, .f32⟩
  | .hbm, ⟨1, _⟩ => ⟨S16x512, .f32⟩
  | .hbm, ⟨2, _⟩ => ⟨S4x128x128, .f32⟩
  | .hbm, ⟨3, _⟩ => ⟨S512, .f32⟩
  | .hbm, ⟨4, _⟩ => ⟨S4x8192x512, .f32⟩
  | .hbm, ⟨5, _⟩ => ⟨S15x512, .f32⟩
  | .hbm, ⟨6, _⟩ => ⟨S1x15x512, .f32⟩
  | .hbm, ⟨7, _⟩ => ⟨S4x15x512, .f32⟩
  | .hbm, ⟨8, _⟩ => ⟨S4x8207x512, .f32⟩
  | .hbm, ⟨9, _⟩ => ⟨S_, .i32⟩
  | .hbm, ⟨10, _⟩ => ⟨S_, .f32⟩
  | .hbm, ⟨11, _⟩ => ⟨S4x8208x512, .f32⟩
  | .hbm, ⟨12, _⟩ => ⟨S_, .f32⟩
  | .hbm, ⟨13, _⟩ => ⟨S_, .f32⟩
  | .hbm, ⟨14, _⟩ => ⟨S4x8208x512, .f32⟩
  | .hbm, ⟨15, _⟩ => ⟨S4x8192x512, .f32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S4x8192x128, .f32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .f32⟩
  | .hbm, ⟨28, _⟩ => ⟨S1x8192x1, .f32⟩
  | .hbm, ⟨29, _⟩ => ⟨S4x8192x128, .f32⟩
  | .hbm, ⟨30, _⟩ => ⟨S4x8192x128, .f32⟩
  | .hbm, ⟨31, _⟩ => ⟨S4x8192x128, .f32⟩
  | .hbm, ⟨32, _⟩ => ⟨S4x8192x128, .f32⟩
  | .hbm, ⟨33, _⟩ => ⟨S4x8192x128, .f32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .f32⟩
  | .hbm, ⟨41, _⟩ => ⟨S1x8192x1, .f32⟩
  | .hbm, ⟨42, _⟩ => ⟨S4x8192x128, .f32⟩
  | .hbm, ⟨43, _⟩ => ⟨S4x8192x128, .f32⟩
  | .hbm, ⟨44, _⟩ => ⟨S4x8192x128, .f32⟩
  | .hbm, ⟨45, _⟩ => ⟨S4x8192x128, .f32⟩
  | .hbm, ⟨46, _⟩ => ⟨S4x8192x128, .f32⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192, .f32⟩
  | .hbm, ⟨54, _⟩ => ⟨S1x8192x1, .f32⟩
  | .hbm, ⟨55, _⟩ => ⟨S4x8192x128, .f32⟩
  | .hbm, ⟨56, _⟩ => ⟨S4x8192x128, .f32⟩
  | .hbm, ⟨57, _⟩ => ⟨S4x8192x128, .f32⟩
  | .hbm, ⟨58, _⟩ => ⟨S4x8192x128, .f32⟩
  | .hbm, ⟨59, _⟩ => ⟨S4x8192x128, .f32⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .f32⟩
  | .hbm, ⟨67, _⟩ => ⟨S1x8192x1, .f32⟩
  | .hbm, ⟨68, _⟩ => ⟨S4x8192x128, .f32⟩
  | .hbm, ⟨69, _⟩ => ⟨S4x8192x128, .f32⟩
  | .hbm, ⟨70, _⟩ => ⟨S4x8192x128, .f32⟩
  | .hbm, ⟨71, _⟩ => ⟨S4x8192x128, .f32⟩
  | .hbm, ⟨72, _⟩ => ⟨S4x8192x512, .f32⟩
  | .hbm, ⟨73, _⟩ => ⟨S4x8192x512, .f32⟩
  | .hbm, ⟨74, _⟩ => ⟨S4x8192x512, .f32⟩
  | .hbm, ⟨75, _⟩ => ⟨S4x8192x4x128, .f32⟩
  | .hbm, ⟨76, _⟩ => ⟨S4x128x4x8192, .f32⟩
  | .hbm, ⟨77, _⟩ => ⟨S4x8192x4x128, .f32⟩
  | .hbm, ⟨78, _⟩ => ⟨S4x8192x512, .f32⟩
  | .hbm, ⟨79, _⟩ => ⟨S1x1x512, .f32⟩
  | .hbm, ⟨80, _⟩ => ⟨S4x8192x512, .f32⟩
  | .hbm, ⟨81, _⟩ => ⟨S4x8192x512, .f32⟩
  | .hbm, ⟨82, _⟩ => ⟨S4x8192x512, .bf16⟩
  | _, _ => ⟨S4x8192x6408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_call1_call0_cst : Ref sig .tc := ⟨.hbm, 12, rfl⟩
abbrev main_call1_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== KeysKernel.lean ====
abbrev S4x8192x6408 : Shape := ⟨3, ![4, 8192, 6408]⟩
abbrev S16x128 : Shape := ⟨2, ![16, 128]⟩
abbrev S8 : Shape := ⟨1, ![8]⟩
abbrev S_ : Shape := ⟨0, ![]⟩
abbrev S128x256 : Shape := ⟨2, ![128, 256]⟩
abbrev S1 : Shape := ⟨1, ![1]⟩
abbrev S2 : Shape := ⟨1, ![2]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S4x8192x120 : Shape := ⟨3, ![4, 8192, 120]⟩
abbrev S4x8192x3072 : Shape := ⟨3, ![4, 8192, 3072]⟩
abbrev S4x8192x1536 : Shape := ⟨3, ![4, 8192, 1536]⟩
abbrev S4x8192x512 : Shape := ⟨3, ![4, 8192, 512]⟩
abbrev S4x8192x256 : Shape := ⟨3, ![4, 8192, 256]⟩
abbrev S4x8192x8 : Shape := ⟨3, ![4, 8192, 8]⟩
abbrev S4x8192x6528 : Shape := ⟨3, ![4, 8192, 6528]⟩
abbrev S4x128x128 : Shape := ⟨3, ![4, 128, 128]⟩
abbrev S4x128x512 : Shape := ⟨3, ![4, 128, 512]⟩
abbrev S4x128x256 : Shape := ⟨3, ![4, 128, 256]⟩
abbrev S128x128 : Shape := ⟨2, ![128, 128]⟩
abbrev S4x4x256x128 : Shape := ⟨4, ![4, 4, 256, 128]⟩
abbrev S1x1x128x128 : Shape := ⟨4, ![1, 1, 128, 128]⟩
abbrev S4x4x128x128 : Shape := ⟨4, ![4, 4, 128, 128]⟩
abbrev S1x128x512 : Shape := ⟨3, ![1, 128, 512]⟩
abbrev S128x512 : Shape := ⟨2, ![128, 512]⟩
abbrev S1x128x256 : Shape := ⟨3, ![1, 128, 256]⟩
abbrev S1x128x128 : Shape := ⟨3, ![1, 128, 128]⟩
abbrev S1x1x256x128 : Shape := ⟨4, ![1, 1, 256, 128]⟩
abbrev S256x128 : Shape := ⟨2, ![256, 128]⟩
abbrev S128 : Shape := ⟨1, ![128]⟩
abbrev S128x1 : Shape := ⟨2, ![128, 1]⟩

abbrev nBuf : Space → Nat
  | .hbm => 65
  | .vmem => 14
  | .smem => 1
  | _ => 0

abbrev bufTy : (tb : Table) → Fin (tcTables nBuf tb) → BufTy
  | .hbm, ⟨0, _⟩ => ⟨S4x8192x6408, .f32⟩
  | .hbm, ⟨1, _⟩ => ⟨S16x128, .f32⟩
  | .hbm, ⟨2, _⟩ => ⟨S16x128, .f32⟩
  | .hbm, ⟨3, _⟩ => ⟨S8, .f32⟩
  | .hbm, ⟨4, _⟩ => ⟨S_, .f32⟩
  | .hbm, ⟨5, _⟩ => ⟨S128x256, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S128x256, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S128x256, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S1x8192x1x32, .f32⟩
  | .hbm, ⟨39, _⟩ => ⟨S1x8192x4x32, .f32⟩
  | .hbm, ⟨40, _⟩ => ⟨S8192x128, .f32⟩
  | .hbm, ⟨41, _⟩ => ⟨S8192x32, .f32⟩
  | .hbm, ⟨42, _⟩ => ⟨S8192x64, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S_, .bf16⟩
  | .hbm, ⟨47, _⟩ => ⟨S4x8192x120, .bf16⟩
  | .hbm, ⟨48, _⟩ => ⟨S4x8192x3072, .f32⟩
  | .hbm, ⟨49, _⟩ => ⟨S4x8192x3072, .bf16⟩
  | .hbm, ⟨50, _⟩ => ⟨S4x8192x1536, .f32⟩
  | .hbm, ⟨51, _⟩ => ⟨S4x8192x1536, .bf16⟩
  | .hbm, ⟨52, _⟩ => ⟨S4x8192x512, .f32⟩
  | .hbm, ⟨53, _⟩ => ⟨S4x8192x512, .bf16⟩
  | .hbm, ⟨54, _⟩ => ⟨S4x8192x512, .f32⟩
  | .hbm, ⟨55, _⟩ => ⟨S4x8192x512, .bf16⟩
  | .hbm, ⟨56, _⟩ => ⟨S4x8192x512, .f32⟩
  | .hbm, ⟨57, _⟩ => ⟨S4x8192x512, .bf16⟩
  | .hbm, ⟨58, _⟩ => ⟨S4x8192x256, .f32⟩
  | .hbm, ⟨59, _⟩ => ⟨S4x8192x256, .bf16⟩
  | .hbm, ⟨60, _⟩ => ⟨S4x8192x8, .f32⟩
  | .hbm, ⟨61, _⟩ => ⟨S4x8192x8, .bf16⟩
  | .hbm, ⟨62, _⟩ => ⟨S4x8192x6528, .bf16⟩
  | .hbm, ⟨63, _⟩ => ⟨S4x8192x512, .bf16⟩
  | .hbm, ⟨64, _⟩ => ⟨S4x128x128, .f32⟩
  | .local _ .vmem, ⟨0, _⟩ => ⟨S4x128x512, .bf16⟩
  | .local _ .vmem, ⟨1, _⟩ => ⟨S4x128x512, .bf16⟩
  | .local _ .vmem, ⟨2, _⟩ => ⟨S4x128x256, .bf16⟩
  | .local _ .vmem, ⟨3, _⟩ => ⟨S4x128x256, .bf16⟩
  | .local _ .vmem, ⟨4, _⟩ => ⟨S128x256, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S4x128x512, .bf16⟩
  | .local _ .vmem, ⟨10, _⟩ => ⟨S4x128x512, .bf16⟩
  | .local _ .vmem, ⟨11, _⟩ => ⟨S4x128x128, .f32⟩
  | .local _ .vmem, ⟨12, _⟩ => ⟨S4x4x256x128, .bf16⟩
  | .local _ .vmem, ⟨13, _⟩ => ⟨S4x4x256x128, .bf16⟩
  | .local _ .smem, ⟨0, _⟩ => ⟨S8, .f32⟩
  | _, _ => ⟨S4x8192x6408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50_0 : Ref sig .tc := ⟨.hbm, 63, rfl⟩
abbrev main_v50_1 : Ref sig .tc := ⟨.hbm, 64, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== KeysKernelIdeal.lean ====
variable {F : FTy → Type} [FloatOps F] [Named F]
def κ : String → Option EReal := fun
  | "mask" => some ⊥
  | _ => none
-- ==== KeysReferenceIdeal.lean ====
abbrev S4x8192x6408 : Shape := ⟨3, ![4, 8192, 6408]⟩
abbrev S16x128 : Shape := ⟨2, ![16, 128]⟩
abbrev S8 : Shape := ⟨1, ![8]⟩
abbrev S4x8192x128 : Shape := ⟨3, ![4, 8192, 128]⟩
abbrev S4x8192x2x64 : Shape := ⟨4, ![4, 8192, 2, 64]⟩
abbrev S8192 : Shape := ⟨1, ![8192]⟩
abbrev S_ : Shape := ⟨0, ![]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S4x8192x2x32 : Shape := ⟨4, ![4, 8192, 2, 32]⟩
abbrev S1x16x2x64 : Shape := ⟨4, ![1, 16, 2, 64]⟩
abbrev S4x16x2x64 : Shape := ⟨4, ![4, 16, 2, 64]⟩
abbrev S4x8208x2x64 : Shape := ⟨4, ![4, 8208, 2, 64]⟩
abbrev S4x128x2x64 : Shape := ⟨4, ![4, 128, 2, 64]⟩
abbrev S4x128x128 : Shape := ⟨3, ![4, 128, 128]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x6408, .f32⟩
  | .hbm, ⟨1, _⟩ => ⟨S16x128, .f32⟩
  | .hbm, ⟨2, _⟩ => ⟨S16x128, .f32⟩
  | .hbm, ⟨3, _⟩ => ⟨S8, .f32⟩
  | .hbm, ⟨4, _⟩ => ⟨S4x8192x128, .f32⟩
  | .hbm, ⟨5, _⟩ => ⟨S4x8192x2x64, .f32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S1x8192x1x32, .f32⟩
  | .hbm, ⟨26, _⟩ => ⟨S8192x32, .f32⟩
  | .hbm, ⟨27, _⟩ => ⟨S1x8192x1x32, .f32⟩
  | .hbm, ⟨28, _⟩ => ⟨S4x8192x2x32, .f32⟩
  | .hbm, ⟨29, _⟩ => ⟨S4x8192x2x32, .f32⟩
  | .hbm, ⟨30, _⟩ => ⟨S4x8192x2x32, .f32⟩
  | .hbm, ⟨31, _⟩ => ⟨S4x8192x2x32, .f32⟩
  | .hbm, ⟨32, _⟩ => ⟨S4x8192x2x32, .f32⟩
  | .hbm, ⟨33, _⟩ => ⟨S4x8192x2x32, .f32⟩
  | .hbm, ⟨34, _⟩ => ⟨S4x8192x2x32, .f32⟩
  | .hbm, ⟨35, _⟩ => ⟨S4x8192x2x32, .f32⟩
  | .hbm, ⟨36, _⟩ => ⟨S4x8192x2x32, .f32⟩
  | .hbm, ⟨37, _⟩ => ⟨S4x8192x2x32, .f32⟩
  | .hbm, ⟨38, _⟩ => ⟨S4x8192x2x32, .f32⟩
  | .hbm, ⟨39, _⟩ => ⟨S4x8192x2x32, .f32⟩
  | .hbm, ⟨40, _⟩ => ⟨S4x8192x2x64, .f32⟩
  | .hbm, ⟨41, _⟩ => ⟨S1x16x2x64, .f32⟩
  | .hbm, ⟨42, _⟩ => ⟨S4x16x2x64, .f32⟩
  | .hbm, ⟨43, _⟩ => ⟨S4x8208x2x64, .f32⟩
  | .hbm, ⟨44, _⟩ => ⟨S4x128x2x64, .f32⟩
  | .hbm, ⟨45, _⟩ => ⟨S4x128x128, .f32⟩
  | _, _ => ⟨S4x8192x6408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== Proof.MlpBlocks.lean ====
/- What the merge-and-mixer kernel's windows hold at each grid point, in terms of the argument arrays. -/
module

public import proofs.«01_k».proof.Proof.Gen.MlpKernelIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpKernelIdeal.Tie

open Cert.MlpKernelIdeal Cert.MlpKernelIdeal.Gen

variable (m : (ℓ : Loc nD τ sig) → Buf (Elt Ideal) ℓ)

/-- Where each window's block sits at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 2]
    ∧ win0_6.index t = ![t.val, 0] ∧ win0_15.index t = ![t.val, 0] ∧ t.val < 64 :=
  (by decide +kernel : ∀ t : Fin grid0.N, _)

/-- The weights' windows hold the whole arrays. -/
theorem idw : ∀ t : Fin cfg0.N, win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] :=
  (by decide +kernel : ∀ t : Fin grid0.N, _)

/-- The grid has 64 points. -/
theorem lt64 (t : Fin cfg0.N) : t.val < 64 := (idx t).2.2.2.2.2.2.2.2

/-- The batch of row `y` of the tile at grid point `t`. -/
def tb (t : Fin cfg0.N) (y : Fin 512) : Fin 4 := ⟨(t.val * 512 + y.val) / 8192, by have := lt64 t; omega⟩

/-- The position of that row in its batch. -/
def ts (t : Fin cfg0.N) (y : Fin 512) : Fin 8192 := ⟨(t.val * 512 + y.val) % 8192, by omega⟩

/-- The packed projection, its columns in the kernels' order, padded by zeros. -/
def pack (h : FVec Ideal S4x8192x6408 .f32) : FVec Ideal S4x8192x6528 .bf16 :=
  concatenate S4x8192x6528 2
    [⟨S4x8192x3072, truncf .bf16 ((extractStridedSlice S4x8192x3072 ![0, 0, 3336] · slices_S4x8192x6408_S4x8192x3072_0_0_3336) h) bitsLt_bf16_f32⟩,
     ⟨S4x8192x1536, truncf .bf16 ((extractStridedSlice S4x8192x1536 ![0, 0, 512] · slices_S4x8192x6408_S4x8192x1536_0_0_512) h) bitsLt_bf16_f32⟩,
     ⟨S4x8192x512, truncf .bf16 ((extractStridedSlice S4x8192x512 ![0, 0, 0] · slices_S4x8192x6408_S4x8192x512_0_0_0) h) bitsLt_bf16_f32⟩,
     ⟨S4x8192x512, truncf .bf16 ((extractStridedSlice S4x8192x512 ![0, 0, 2048] · slices_S4x8192x6408_S4x8192x512_0_0_2048) h) bitsLt_bf16_f32⟩,
     ⟨S4x8192x512, truncf .bf16 ((extractStridedSlice S4x8192x512 ![0, 0, 2568] · slices_S4x8192x6408_S4x8192x512_0_0_2568) h) bitsLt_bf16_f32⟩,
     ⟨S4x8192x256, truncf .bf16 ((extractStridedSlice S4x8192x256 ![0, 0, 3080] · slices_S4x8192x6408_S4x8192x256_0_0_3080) h) bitsLt_bf16_f32⟩,
     ⟨S4x8192x8, truncf .bf16 ((extractStridedSlice S4x8192x8 ![0, 0, 2560] · slices_S4x8192x6408_S4x8192x8_0_0_2560) h) bitsLt_bf16_f32⟩,
     ⟨S4x8192x120, broadcastInDim S4x8192x120 ![] bcast_S_S4x8192x120 (constant S_ .bf16 0x0000#16)⟩]
    concatenates_S4x8192x3072_S4x8192x1536_S4x8192x512_S4x8192x512_S4x8192x512_S4x8192x256_S4x8192x8_S4x8192x120_S4x8192x6528_d2

/-- The packed rows the kernel is given. -/
theorem v22 (c : Dev nD) :
    (show FVec Ideal S32768x6528 .bf16 from V m c main_v22) = shapeCast S32768x6528 (pack (m ((c : Thread nD τ).loc main_arg3))) shapeCasts_S4x8192x6528_S32768x6528 := by
  rfl

/-- The packed array begins with the gates' columns. -/
theorem pack_gate (h : FVec Ideal S4x8192x6408 .f32) (b : Fin 4) (s : Fin 8192) (k : Fin 3072) :
    pack h (ix3 b s ⟨k, by omega⟩) = h (ix3 b s ⟨3336 + k, by omega⟩) := by
  unfold pack
  pointwise

/-- A row of a tile read out of the packed array. -/
theorem packed_row (c : Dev nD) (t : Fin cfg0.N) (y : Fin 512) (k : Fin 3072) :
    V m c main_v22 (ix2 ⟨t.val * 512 + y, by have := lt64 t; omega⟩ ⟨k, by omega⟩)
      = m ((c : Thread nD τ).loc main_arg3) (ix3 (tb t y) (ts t y) ⟨3336 + k, by omega⟩) := by
  refine (congrFun (v22 m c) _).trans (Eq.trans ?_ (pack_gate _ (tb t y) (ts t y) k))
  generalize pack _ = X
  unfold tb ts
  pointwise

set_option maxHeartbeats 1600000 in
/-- The token rows of the tile at `t`: the three mixers' outputs and the residual stream. -/
theorem rows (c : Dev nD) (t : Fin cfg0.N) (y : Fin 512) :
    (∀ k : Fin 512, iblk m c 0 t (ix2 y k) = m ((c : Thread nD τ).loc main_arg0) (ix3 (tb t y) (ts t y) k))
    ∧ (∀ k : Fin 512, iblk m c 1 t (ix2 y k) = m ((c : Thread nD τ).loc main_arg1) (ix3 (tb t y) (ts t y) k))
    ∧ (∀ k : Fin 512, iblk m c 2 t (ix2 y k) = m ((c : Thread nD τ).loc main_arg2) (ix3 (tb t y) (ts t y) k))
    ∧ (∀ k : Fin 1024, iblk m c 6 t (ix2 y k) = m ((c : Thread nD τ).loc main_arg4) (ix3 (tb t y) (ts t y) k)) := by
  refine ⟨fun k => ?_, fun k => ?_, fun k => ?_, fun k => ?_⟩ <;>
  · blk_simp [iblk]
    entry_read
    pointwise
    unfold tb ts
    blk_ext [idx t]

/-- The gate columns of window 3. -/
theorem gate0 (c : Dev nD) (t : Fin cfg0.N) (y : Fin 512) (k : Fin 1024) :
    X0_3 m c t (ix2 y k) = m ((c : Thread nD τ).loc main_arg3) (ix3 (tb t y) (ts t y) ⟨3336 + k, by omega⟩) := by
  unfold X0_3 Pipeline.Window.fill
  rw [dif_pos (moved0_3 t _)]
  unfold Gen.iblk
  refine Eq.trans (congrArg (V m c main_v22) ?_) ((packed_row m c t y ⟨k, by omega⟩).trans ?_)
  · blk_ext [idx t]
  · exact congrArg _ (congrArg (ix3 (tb t y) (ts t y)) (Fin.ext (by first | rfl | (simp only []; omega))))

/-- The gate columns of window 4. -/
theorem gate1 (c : Dev nD) (t : Fin cfg0.N) (y : Fin 512) (k : Fin 1024) :
    X0_4 m c t (ix2 y k) = m ((c : Thread nD τ).loc main_arg3) (ix3 (tb t y) (ts t y) ⟨4360 + k, by omega⟩) := by
  unfold X0_4 Pipeline.Window.fill
  rw [dif_pos (moved0_4 t _)]
  unfold Gen.iblk
  refine Eq.trans (congrArg (V m c main_v22) ?_) ((packed_row m c t y ⟨1024 + k, by omega⟩).trans ?_)
  · blk_ext [idx t]
  · exact congrArg _ (congrArg (ix3 (tb t y) (ts t y)) (Fin.ext (by first | rfl | (simp only []; omega))))

/-- The gate columns of window 5. -/
theorem gate2 (c : Dev nD) (t : Fin cfg0.N) (y : Fin 512) (k : Fin 1024) :
    X0_5 m c t (ix2 y k) = m ((c : Thread nD τ).loc main_arg3) (ix3 (tb t y) (ts t y) ⟨5384 + k, by omega⟩) := by
  unfold X0_5 Pipeline.Window.fill
  rw [dif_pos (moved0_5 t _)]
  unfold Gen.iblk
  refine Eq.trans (congrArg (V m c main_v22) ?_) ((packed_row m c t y ⟨2048 + k, by omega⟩).trans ?_)
  · blk_ext [idx t]
  · exact congrArg _ (congrArg (ix3 (tb t y) (ts t y)) (Fin.ext (by first | rfl | (simp only []; omega))))

set_option maxHeartbeats 1600000 in
/-- The projections' weights, whole at every point. -/
theorem weights (c : Dev nD) (t : Fin cfg0.N) :
    (∀ (k : Fin 512) (j : Fin 1024), iblk m c 7 t (ix2 k j) = m ((c : Thread nD τ).loc main_arg5) (ix2 k j))
    ∧ (∀ (k : Fin 512) (j : Fin 1024), iblk m c 8 t (ix2 k j) = m ((c : Thread nD τ).loc main_arg6) (ix2 k j))
    ∧ (∀ (k : Fin 512) (j : Fin 1024), iblk m c 9 t (ix2 k j) = m ((c : Thread nD τ).loc main_arg7) (ix2 k j))
    ∧ (∀ (k : Fin 1024) (j : Fin 1024), iblk m c 10 t (ix2 k j) = m ((c : Thread nD τ).loc main_arg8) (ix2 k j))
    ∧ (∀ (k : Fin 1024) (j : Fin 4096), iblk m c 12 t (ix2 k j) = m ((c : Thread nD τ).loc main_arg10) (ix2 k j))
    ∧ (∀ (k : Fin 4096) (j : Fin 1024), iblk m c 13 t (ix2 k j) = m ((c : Thread nD τ).loc main_arg11) (ix2 k j)) := by
  refine ⟨fun k j => ?_, fun k j => ?_, fun k j => ?_, fun k j => ?_, fun k j => ?_, fun k j => ?_⟩ <;>
  · blk_simp [iblk]
    entry_read
    pointwise
    blk_ext [idw t]

set_option maxHeartbeats 1600000 in
/-- The two norms' weights. -/
theorem norms (c : Dev nD) (t : Fin cfg0.N) :
    (∀ k : Fin 1024, iblk m c 11 t (ix2 0 k) = m ((c : Thread nD τ).loc main_arg9) (ix1 k))
    ∧ (∀ k : Fin 1024, iblk m c 14 t (ix2 0 k) = m ((c : Thread nD τ).loc main_arg12) (ix1 k)) := by
  refine ⟨fun k => ?_, fun k => ?_⟩ <;>
  · blk_simp [iblk]
    entry_read
    pointwise
    blk_ext [idw t]

end Cert.MlpKernelIdeal.Tie

end
-- ==== Proof.Rows.lean ====
/- The mathematics of one row, over the extended reals, with no tile, no grid and no memory in it: what the merge and the
   channel mixer compute for one token.  Kernel and reference are each shown to compute these functions. -/
module

public import Idealize.ShloMosaic.Lib.Pointwise

@[expose] public section

noncomputable section

namespace Cert.Rows

open Idealize.ShloMosaic

/-- The root-mean-square norm of a row of 1024 numbers, times its weight. -/
def rms (x w : Fin 1024 → EReal) (l : Fin 1024) : EReal :=
  x l * Ideal.rsqrt (Ideal.div (∑ k, x k * x k) (Ideal.ofBits .f32 0x44800000#32) + Ideal.ofBits .f32 0x358637BD#32) * w l

/-- The gated sum of the three projected mixers. -/
def merged (oa ob oc : Fin 512 → EReal) (ga gb gc : Fin 1024 → EReal) (pa pb pc : Fin 512 → Fin 1024 → EReal)
    (j : Fin 1024) : EReal :=
  Ideal.logistic (ga j) * (∑ k, oa k * pa k j) + Ideal.logistic (gb j) * (∑ k, ob k * pb k j)
    + Ideal.logistic (gc j) * (∑ k, oc k * pc k j)

/-- The residual stream after the output projection. -/
def resid (x m : Fin 1024 → EReal) (wo : Fin 1024 → Fin 1024 → EReal) (j : Fin 1024) : EReal :=
  x j + ∑ k, m k * wo k j

/-- One unit of the hidden layer: the squared positive part of the up projection `u` of the normed row `n`. -/
def act (n u : Fin 1024 → EReal) : EReal :=
  max (∑ k, n k * u k) 0 * max (∑ k, n k * u k) 0

/-- The channel mixer of a residual row `h`, and the final norm. -/
def mixer (h n2 : Fin 1024 → EReal) (wu : Fin 1024 → Fin 4096 → EReal) (wd : Fin 4096 → Fin 1024 → EReal)
    (fw : Fin 1024 → EReal) : Fin 1024 → EReal :=
  rms (fun j => h j + ∑ d, act (rms h n2) (fun k => wu k d) * wd d j) fw

/-- A sum over 4096 is the sum of its four quarters, added one after the other to what was there. -/
theorem add_quarters (a : EReal) (f : Fin 4096 → EReal) :
    a + ∑ d, f d = a + (∑ j : Fin 1024, f ⟨j, by omega⟩) + (∑ j : Fin 1024, f ⟨1024 + j, by omega⟩)
      + (∑ j : Fin 1024, f ⟨2048 + j, by omega⟩) + (∑ j : Fin 1024, f ⟨3072 + j, by omega⟩) := by
  rw [Fin.sum_univ_tiles 4 1024 rfl f]
  simp only [Fin.sum_univ_four, ← add_assoc]
  refine congrArg₂ (· + ·) (congrArg₂ (· + ·) (congrArg₂ (· + ·) (congrArg₂ (· + ·) rfl ?_) ?_) ?_) ?_ <;>
    exact Finset.sum_congr rfl fun j _ => congrArg f (Fin.ext (by simp))

end Cert.Rows

end
-- ==== Proof.MlpPure.lean ====
/- What the stored payloads of the merge-and-mixer kernel are, at one row and one column. -/
module

public import proofs.«01_k».proof.Proof.Gen.MlpKernelIdeal.Skeleton
public import proofs.«01_k».proof.Proof.Rows

@[expose] public section

set_option maxRecDepth 16384

noncomputable section

open Idealize.ShloMosaic Idealize.ShloMosaic.TcCoe Idealize.SL.Sem

namespace Cert.MlpKernelIdeal.Pure

open Cert.MlpKernelIdeal Cert.MlpKernelIdeal.Gen Cert.Rows

/-- The gated merge of the tile, row by row. -/
theorem pay2_at (g0 : Vec Ideal S512x1024 .bf16) (o0 : Vec Ideal S512x512 .bf16) (p0 : Vec Ideal S512x1024 .bf16)
    (g1 : Vec Ideal S512x1024 .bf16) (o1 : Vec Ideal S512x512 .bf16) (p1 : Vec Ideal S512x1024 .bf16)
    (g2 : Vec Ideal S512x1024 .bf16) (o2 : Vec Ideal S512x512 .bf16) (p2 : Vec Ideal S512x1024 .bf16)
    (r : Fin 512) (l : Fin 1024) :
    k0_pay2 (F := Ideal) g0 o0 p0 g1 o1 p1 g2 o2 p2 (ix2 r l)
      = merged (fun k => o0 (ix2 r k)) (fun k => o1 (ix2 r k)) (fun k => o2 (ix2 r k))
          (fun k => g0 (ix2 r k)) (fun k => g1 (ix2 r k)) (fun k => g2 (ix2 r k))
          (fun k j => p0 (ix2 k j)) (fun k j => p1 (ix2 k j)) (fun k j => p2 (ix2 k j)) l := by
  unfold merged
  pointwise [k0_pay2]
  try simp only [zero_add]

/-- The residual row. -/
theorem pay3_at (x : FVec Ideal S512x1024 .f32) (g : FVec Ideal S512x1024 .bf16) (w : Vec Ideal S1024x1024 .bf16)
    (r : Fin 512) (l : Fin 1024) :
    k0_pay3 (F := Ideal) x g w (ix2 r l)
      = resid (fun j => x (ix2 r j)) (fun j => g (ix2 r j)) (fun k j => w (ix2 k j)) l := by
  unfold resid
  pointwise [k0_pay3]
  try simp only [zero_add]

/-- The normed residual row. -/
theorem pay4_at (x : FVec Ideal S512x1024 .f32) (g : FVec Ideal S512x1024 .bf16) (w : Vec Ideal S1024x1024 .bf16)
    (n : Vec Ideal S1x1024 .f32) (r : Fin 512) (l : Fin 1024) :
    k0_pay4 (F := Ideal) x g w n (ix2 r l)
      = rms (fun j => k0_pay3 (F := Ideal) x g w (ix2 r j)) (fun j => n (ix2 0 j)) l := by
  unfold rms
  pointwise [k0_pay4]
  try simp only [zero_add]

/-- The residual row after the first quarter of the hidden layer. -/
theorem pay5_at (x : FVec Ideal S512x1024 .f32) (g : FVec Ideal S512x1024 .bf16) (w : Vec Ideal S1024x1024 .bf16)
    (n : Vec Ideal S1x1024 .f32) (u d : Vec Ideal S1024x1024 .bf16) (r : Fin 512) (l : Fin 1024) :
    k0_pay5 (F := Ideal) x g w n u d (ix2 r l)
      = k0_pay3 (F := Ideal) x g w (ix2 r l)
        + ∑ k : Fin 1024, act (fun j => k0_pay4 (F := Ideal) x g w n (ix2 r j)) (fun j => u (ix2 j k)) * d (ix2 k l) := by
  unfold act
  pointwise [k0_pay5]
  try simp only [zero_add]

/-- The second quarter's hidden units. -/
theorem pay6_at (x : FVec Ideal S512x1024 .f32) (g : FVec Ideal S512x1024 .bf16) (w : Vec Ideal S1024x1024 .bf16)
    (n : Vec Ideal S1x1024 .f32) (u : Vec Ideal S1024x1024 .bf16) (r : Fin 512) (k : Fin 1024) :
    k0_pay6 (F := Ideal) x g w n u (ix2 r k)
      = act (fun j => k0_pay4 (F := Ideal) x g w n (ix2 r j)) (fun j => u (ix2 j k)) := by
  unfold act
  pointwise [k0_pay6]
  try simp only [zero_add]

/-- The other quarters and the final norm. -/
theorem pay8_at (n4 : FVec Ideal S512x1024 .bf16) (a : FVec Ideal S512x1024 .f32) (h1 : FVec Ideal S512x1024 .bf16)
    (d1 : FVec Ideal S1024x1024 .bf16) (u2 d2 u3 d3 : Vec Ideal S1024x1024 .bf16) (fw : Vec Ideal S1x1024 .f32)
    (r : Fin 512) (l : Fin 1024) :
    k0_pay8 (F := Ideal) n4 a h1 d1 (constant S512x1024 .f32 0x00000000#32) u2 d2 u3 d3 fw (ix2 r l)
      = rms (fun l => a (ix2 r l) + (∑ k : Fin 1024, h1 (ix2 r k) * d1 (ix2 k l))
          + (∑ k : Fin 1024, act (fun j => n4 (ix2 r j)) (fun j => u2 (ix2 j k)) * d2 (ix2 k l))
          + (∑ k : Fin 1024, act (fun j => n4 (ix2 r j)) (fun j => u3 (ix2 j k)) * d3 (ix2 k l)))
          (fun j => fw (ix2 0 j)) l := by
  unfold rms act
  pointwise [k0_pay8]
  try simp only [zero_add]

/-- What the body stores at row `r`, column `l`, when its blocks hold the named rows and weights. -/
theorem tile_at {oa ob oc : Fin 512 → EReal} {ga gb gc xx : Fin 1024 → EReal} {pa pb pc : Fin 512 → Fin 1024 → EReal}
    {wo : Fin 1024 → Fin 1024 → EReal} {nw : Fin 1024 → EReal} {wu : Fin 1024 → Fin 4096 → EReal}
    {wd : Fin 4096 → Fin 1024 → EReal} {fw : Fin 1024 → EReal}
    {g0 : Vec Ideal S512x1024 .bf16} {o0 : Vec Ideal S512x512 .bf16} {p0 : Vec Ideal S512x1024 .bf16}
    {g1 : Vec Ideal S512x1024 .bf16} {o1 : Vec Ideal S512x512 .bf16} {p1 : Vec Ideal S512x1024 .bf16}
    {g2 : Vec Ideal S512x1024 .bf16} {o2 : Vec Ideal S512x512 .bf16} {p2 : Vec Ideal S512x1024 .bf16}
    {x : Vec Ideal S512x1024 .f32} {w : Vec Ideal S1024x1024 .bf16} {n : Vec Ideal S1x1024 .f32}
    {u0 d0 u1 d1 u2 d2 u3 d3 : Vec Ideal S1024x1024 .bf16} {f : Vec Ideal S1x1024 .f32} (r : Fin 512) (l : Fin 1024)
    (ho0 : ∀ k, o0 (ix2 r k) = oa k) (ho1 : ∀ k, o1 (ix2 r k) = ob k) (ho2 : ∀ k, o2 (ix2 r k) = oc k)
    (hg0 : ∀ k, g0 (ix2 r k) = ga k) (hg1 : ∀ k, g1 (ix2 r k) = gb k) (hg2 : ∀ k, g2 (ix2 r k) = gc k)
    (hx : ∀ k, x (ix2 r k) = xx k)
    (hp0 : ∀ k j, p0 (ix2 k j) = pa k j) (hp1 : ∀ k j, p1 (ix2 k j) = pb k j) (hp2 : ∀ k j, p2 (ix2 k j) = pc k j)
    (hw : ∀ k j, w (ix2 k j) = wo k j) (hn : ∀ k, n (ix2 0 k) = nw k) (hf : ∀ k, f (ix2 0 k) = fw k)
    (hu0 : ∀ (k j : Fin 1024), u0 (ix2 k j) = wu k ⟨j, by omega⟩)
    (hu1 : ∀ (k j : Fin 1024), u1 (ix2 k j) = wu k ⟨1024 + j, by omega⟩)
    (hu2 : ∀ (k j : Fin 1024), u2 (ix2 k j) = wu k ⟨2048 + j, by omega⟩)
    (hu3 : ∀ (k j : Fin 1024), u3 (ix2 k j) = wu k ⟨3072 + j, by omega⟩)
    (hd0 : ∀ (k j : Fin 1024), d0 (ix2 k j) = wd ⟨k, by omega⟩ j)
    (hd1 : ∀ (k j : Fin 1024), d1 (ix2 k j) = wd ⟨1024 + k, by omega⟩ j)
    (hd2 : ∀ (k j : Fin 1024), d2 (ix2 k j) = wd ⟨2048 + k, by omega⟩ j)
    (hd3 : ∀ (k j : Fin 1024), d3 (ix2 k j) = wd ⟨3072 + k, by omega⟩ j) :
    k0_pay8 (F := Ideal) (k0_pay4 (k0_pay1 x) (k0_pay2 g0 o0 p0 g1 o1 p1 g2 o2 p2) w n)
        (k0_pay5 (k0_pay1 x) (k0_pay2 g0 o0 p0 g1 o1 p1 g2 o2 p2) w n u0 d0)
        (k0_pay6 (k0_pay1 x) (k0_pay2 g0 o0 p0 g1 o1 p1 g2 o2 p2) w n u1) (k0_pay7 d1)
        (constant S512x1024 .f32 0x00000000#32) u2 d2 u3 d3 f (ix2 r l)
      = mixer (resid xx (merged oa ob oc ga gb gc pa pb pc) wo) nw wu wd fw l := by
  have h1 : ∀ k, k0_pay1 (F := Ideal) x (ix2 r k) = xx k := fun k => by
    rw [← hx]; pointwise [k0_pay1]
  have h7 : ∀ k j, k0_pay7 (F := Ideal) d1 (ix2 k j) = d1 (ix2 k j) := fun k j => by
    pointwise [k0_pay7]
  rw [pay8_at]
  simp only [pay5_at, pay6_at, pay4_at, pay3_at, pay2_at, h1, h7, ho0, ho1, ho2, hg0, hg1, hg2, hp0, hp1, hp2, hw, hn, hf,
    hu0, hu1, hu2, hu3, hd0, hd1, hd2, hd3]
  unfold mixer
  simp only [add_quarters]

end Cert.MlpKernelIdeal.Pure

end
-- ==== Proof.MlpRef.lean ====
/- The merge-and-mixer reference, read at one token and one column. -/
module

public import proofs.«01_k».proof.Proof.Gen.MlpReferenceIdeal.Run
public import proofs.«01_k».proof.Proof.Rows

@[expose] public section

set_option maxRecDepth 16384

noncomputable section

open Idealize.ShloMosaic Idealize.ShloMosaic.TcCoe Idealize.SL.Sem

namespace Cert.MlpReferenceIdeal.Pure

open Cert.MlpReferenceIdeal Cert.MlpReferenceIdeal.Gen Cert.MlpReferenceIdeal.Value Cert.Rows

/-- The merge, the output projection, the channel mixer and the final norm of token `(b, s)`, from the arrays themselves. -/
def token (oa ob oc : FVec Ideal S4x8192x512 .f32) (h : FVec Ideal S4x8192x6408 .f32) (x : FVec Ideal S4x8192x1024 .f32)
    (pa pb pc : FVec Ideal S512x1024 .f32) (wo : FVec Ideal S1024x1024 .f32) (n2 : FVec Ideal S1024 .f32)
    (wu : FVec Ideal S1024x4096 .f32) (wd : FVec Ideal S4096x1024 .f32) (fw : FVec Ideal S1024 .f32)
    (b : Fin 4) (s : Fin 8192) : Fin 1024 → EReal :=
  mixer (resid (fun j => x (ix3 b s j))
      (merged (fun k => oa (ix3 b s k)) (fun k => ob (ix3 b s k)) (fun k => oc (ix3 b s k))
        (fun j => h (ix3 b s ⟨3336 + j, by omega⟩)) (fun j => h (ix3 b s ⟨4360 + j, by omega⟩))
        (fun j => h (ix3 b s ⟨5384 + j, by omega⟩))
        (fun k j => pa (ix2 k j)) (fun k j => pb (ix2 k j)) (fun k j => pc (ix2 k j)))
      (fun k j => wo (ix2 k j)))
    (fun j => n2 (ix1 j)) (fun k d => wu (ix2 k d)) (fun d j => wd (ix2 d j)) (fun j => fw (ix1 j))

/-- The reference's gated sum of the projected mixers. -/
def refMerged (a3 : FVec Ideal S4x8192x6408 .f32) (a0 : FVec Ideal S4x8192x512 .f32) (a5 : FVec Ideal S512x1024 .f32) (a1 : FVec Ideal S4x8192x512 .f32) (a6 : FVec Ideal S512x1024 .f32) (a2 : FVec Ideal S4x8192x512 .f32) (a7 : FVec Ideal S512x1024 .f32) : FVec Ideal S4x8192x1024 .f32 :=
  addf (addf (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf ((extractStridedSlice S4x8192x1024 ![0, 0, 3336] · slices_S4x8192x6408_S4x8192x1024_0_0_3336) a3))))) (Host.dotGeneral dot_S4x8192x512_S512x1024_S4x8192x1024_2_0_01_1_n_n none a0 a5)) (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf ((extractStridedSlice S4x8192x1024 ![0, 0, 4360] · slices_S4x8192x6408_S4x8192x1024_0_0_4360) a3))))) (Host.dotGeneral dot_S4x8192x512_S512x1024_S4x8192x1024_2_0_01_1_n_n none a1 a6))) (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf ((extractStridedSlice S4x8192x1024 ![0, 0, 5384] · slices_S4x8192x6408_S4x8192x1024_0_0_5384) a3))))) (Host.dotGeneral dot_S4x8192x512_S512x1024_S4x8192x1024_2_0_01_1_n_n none a2 a7))

/-- The reference's residual stream after the output projection. -/
def refResid (a4 : FVec Ideal S4x8192x1024 .f32) (g : FVec Ideal S4x8192x1024 .f32) (a8 : FVec Ideal S1024x1024 .f32) : FVec Ideal S4x8192x1024 .f32 :=
  addf a4 (Host.dotGeneral dot_S4x8192x1024_S1024x1024_S4x8192x1024_2_0_01_1_n_n none g a8)

/-- The reference's norm (both of them: the mixer's and the final one). -/
def refNorm (h : FVec Ideal S4x8192x1024 .f32) (a9 : FVec Ideal S1024 .f32) : FVec Ideal S4x8192x1024 .f32 :=
  mulf (mulf h (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf h h) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a9))

/-- The reference's hidden layer. -/
def refAct (n : FVec Ideal S4x8192x1024 .f32) (a10 : FVec Ideal S1024x4096 .f32) : FVec Ideal S4x8192x4096 .f32 :=
  mulf (maximumf (Host.dotGeneral dot_S4x8192x1024_S1024x4096_S4x8192x4096_2_0_01_1_n_n none n a10) ((broadcastInDim S4x8192x4096 ![] bcast_S_S4x8192x4096) ((constant S_ .f32 0x00000000#32)))) (maximumf (Host.dotGeneral dot_S4x8192x1024_S1024x4096_S4x8192x4096_2_0_01_1_n_n none n a10) ((broadcastInDim S4x8192x4096 ![] bcast_S_S4x8192x4096) ((constant S_ .f32 0x00000000#32))))

/-- The reference's residual stream after the channel mixer. -/
def refSum (h : FVec Ideal S4x8192x1024 .f32) (act : FVec Ideal S4x8192x4096 .f32) (a11 : FVec Ideal S4096x1024 .f32) : FVec Ideal S4x8192x1024 .f32 :=
  addf h (Host.dotGeneral dot_S4x8192x4096_S4096x1024_S4x8192x1024_2_0_01_1_n_n none act a11)

theorem refMerged_at (a3 : FVec Ideal S4x8192x6408 .f32) (a0 a1 a2 : FVec Ideal S4x8192x512 .f32)
    (a5 a6 a7 : FVec Ideal S512x1024 .f32) (b : Fin 4) (s : Fin 8192) (l : Fin 1024) :
    refMerged a3 a0 a5 a1 a6 a2 a7 (ix3 b s l)
      = merged (fun k => a0 (ix3 b s k)) (fun k => a1 (ix3 b s k)) (fun k => a2 (ix3 b s k))
          (fun j => a3 (ix3 b s ⟨3336 + j, by omega⟩)) (fun j => a3 (ix3 b s ⟨4360 + j, by omega⟩))
          (fun j => a3 (ix3 b s ⟨5384 + j, by omega⟩))
          (fun k j => a5 (ix2 k j)) (fun k j => a6 (ix2 k j)) (fun k j => a7 (ix2 k j)) l := by
  unfold merged Ideal.logistic
  pointwise [refMerged]

theorem refResid_at (x g : FVec Ideal S4x8192x1024 .f32) (w : FVec Ideal S1024x1024 .f32)
    (b : Fin 4) (s : Fin 8192) (l : Fin 1024) :
    refResid x g w (ix3 b s l) = resid (fun j => x (ix3 b s j)) (fun j => g (ix3 b s j)) (fun k j => w (ix2 k j)) l := by
  unfold resid
  pointwise [refResid]

theorem refNorm_at (h : FVec Ideal S4x8192x1024 .f32) (w : FVec Ideal S1024 .f32) (b : Fin 4) (s : Fin 8192) (l : Fin 1024) :
    refNorm h w (ix3 b s l) = rms (fun j => h (ix3 b s j)) (fun j => w (ix1 j)) l := by
  unfold rms
  pointwise [refNorm]
  try simp only [zero_add]

theorem refAct_at (n : FVec Ideal S4x8192x1024 .f32) (w : FVec Ideal S1024x4096 .f32)
    (b : Fin 4) (s : Fin 8192) (d : Fin 4096) :
    refAct n w (ix3 b s d) = act (fun j => n (ix3 b s j)) (fun j => w (ix2 j d)) := by
  unfold act
  pointwise [refAct]

theorem refSum_at (h : FVec Ideal S4x8192x1024 .f32) (a : FVec Ideal S4x8192x4096 .f32) (w : FVec Ideal S4096x1024 .f32)
    (b : Fin 4) (s : Fin 8192) (l : Fin 1024) :
    refSum h a w (ix3 b s l) = h (ix3 b s l) + ∑ d : Fin 4096, a (ix3 b s d) * w (ix2 d l) := by
  pointwise [refSum]

/-- The reference's composed result is these stages, one after the other. -/
theorem res_eq (m : (ℓ : Loc nD τ sig) → Buf (Elt Ideal) ℓ) (c : Dev nD) :
    res_main_v72 m c = (shapeCast S32768x1024 (refNorm (refSum
        (refResid (m ((c.tc : Thread nD τ).loc main_arg4)) (refMerged (m ((c.tc : Thread nD τ).loc main_arg3))
          (m ((c.tc : Thread nD τ).loc main_arg0)) (m ((c.tc : Thread nD τ).loc main_arg5))
          (m ((c.tc : Thread nD τ).loc main_arg1)) (m ((c.tc : Thread nD τ).loc main_arg6))
          (m ((c.tc : Thread nD τ).loc main_arg2)) (m ((c.tc : Thread nD τ).loc main_arg7)))
          (m ((c.tc : Thread nD τ).loc main_arg8)))
        (refAct (refNorm
          (refResid (m ((c.tc : Thread nD τ).loc main_arg4)) (refMerged (m ((c.tc : Thread nD τ).loc main_arg3))
            (m ((c.tc : Thread nD τ).loc main_arg0)) (m ((c.tc : Thread nD τ).loc main_arg5))
            (m ((c.tc : Thread nD τ).loc main_arg1)) (m ((c.tc : Thread nD τ).loc main_arg6))
            (m ((c.tc : Thread nD τ).loc main_arg2)) (m ((c.tc : Thread nD τ).loc main_arg7)))
            (m ((c.tc : Thread nD τ).loc main_arg8)))
          (m ((c.tc : Thread nD τ).loc main_arg9))) (m ((c.tc : Thread nD τ).loc main_arg10)))
        (m ((c.tc : Thread nD τ).loc main_arg11))) (m ((c.tc : Thread nD τ).loc main_arg12)))
        shapeCasts_S4x8192x1024_S32768x1024 : FVec Ideal S32768x1024 .f32) := rfl

/-- The reference's result is that function of its arguments. -/
theorem ref_at (m : (ℓ : Loc nD τ sig) → Buf (Elt Ideal) ℓ) (c : Dev nD) (r : Fin 32768) (l : Fin 1024) :
    (show FVec Ideal S32768x1024 .f32 from res_main_v72 m c) (ix2 r l)
      = token (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) ⟨r / 8192, by omega⟩ ⟨r % 8192, by omega⟩ l := by
  rw [res_eq]
  pointwise
  rw [refNorm_at]
  simp only [refSum_at, refAct_at, refNorm_at, refResid_at, refMerged_at]
  rfl

end Cert.MlpReferenceIdeal.Pure

end
-- ==== Proof.MlpValue.lean ====
/- The merge-and-mixer kernel's result array: row by row the function `token` of the argument arrays. -/
module

public import proofs.«01_k».proof.Proof.MlpBlocks
public import proofs.«01_k».proof.Proof.MlpPure
public import proofs.«01_k».proof.Proof.MlpRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpKernelIdeal.Tie

open Cert.MlpKernelIdeal Cert.MlpKernelIdeal.Gen Cert.Rows Cert.MlpKernelIdeal.Pure

variable (m : (ℓ : Loc nD τ sig) → Buf (Elt Ideal) ℓ)

/-- The result, one row at a time. -/
def G (c : Dev nD) : FVec Ideal S32768x1024 .f32 := fun i =>
  Cert.MlpReferenceIdeal.Pure.token (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12))
    ⟨(i 0 : ℕ) / 8192, by have : (i 0 : ℕ) < 32768 := (i 0).isLt; omega⟩
    ⟨(i 0 : ℕ) % 8192, by omega⟩ (i 1)

set_option maxHeartbeats 1600000 in
/-- The kernel's result array. -/
theorem final (c : Dev nD) : (dats m 0 c).arrAt 15 cfg0.N = G m c := by
  refine (dats m 0 c).arrAt_eq_of_covers 15 _ (by decide +kernel) fun t hf y => ?_
  blk_simp
  rw [after0_15]
  unfold outsAt0
  frame_out
  idx_vars y
  refine (tile_at y0 y1 (rows m c t y0).1 (rows m c t y0).2.1 (rows m c t y0).2.2.1 (gate0 m c t y0) (gate1 m c t y0)
    (gate2 m c t y0) (rows m c t y0).2.2.2 (weights m c t).1 (weights m c t).2.1 (weights m c t).2.2.1
    (weights m c t).2.2.2.1 (norms m c t).1 (norms m c t).2 (wu := fun k j => m ((c : Thread nD τ).loc main_arg10) (ix2 k j))
    (wd := fun k j => m ((c : Thread nD τ).loc main_arg11) (ix2 k j)) ?_ ?_ ?_ ?_ ?_ ?_ ?_ ?_).trans ?_
  any_goals
    intro k j
    pointwise
    first
    | exact (weights m c t).2.2.2.2.1 _ _
    | exact (weights m c t).2.2.2.2.2 _ _
  have e : (((View.whole main_v32).slice (win0_15.rect t)).emb (ix2 y0 y1))
      = ix2 ⟨t.val * 512 + y0, by have := lt64 t; omega⟩ y1 := by
    blk_ext [idx t]
  refine Eq.trans ?_ (congrArg (G m c) e).symm
  rfl

end Cert.MlpKernelIdeal.Tie

end
-- ==== Proof.MlpClaim.lean ====
/- The merge-and-mixer claim: kernel and reference leave the same result array, row by row the function `token`. -/
module

public import proofs.«01_k».proof.Defs
public import proofs.«01_k».proof.Proof.MlpValue

@[expose] public section

set_option maxRecDepth 16384

noncomputable section

open Idealize.ShloMosaic Idealize.ShloMosaic.TcCoe Idealize.SL.Sem

namespace Cert.MlpTie

/-- Over one memory the reference's result is the array the kernel writes. -/
theorem ref_eq (m : (ℓ : Loc Cert.MlpReferenceIdeal.nD Cert.MlpReferenceIdeal.τ Cert.MlpReferenceIdeal.sig) → Buf (Elt Ideal) ℓ)
    (c : Dev Cert.MlpReferenceIdeal.nD) (i : Cert.MlpReferenceIdeal.S32768x1024.Idx) :
    (show FVec Ideal Cert.MlpReferenceIdeal.S32768x1024 .f32 from Cert.MlpReferenceIdeal.Value.res_main_v72 m c) i
      = Cert.MlpReferenceIdeal.Pure.token (m ((c.tc : Thread _ _).loc Cert.MlpReferenceIdeal.main_arg0))
          (m ((c.tc : Thread _ _).loc Cert.MlpReferenceIdeal.main_arg1))
          (m ((c.tc : Thread _ _).loc Cert.MlpReferenceIdeal.main_arg2))
          (m ((c.tc : Thread _ _).loc Cert.MlpReferenceIdeal.main_arg3))
          (m ((c.tc : Thread _ _).loc Cert.MlpReferenceIdeal.main_arg4))
          (m ((c.tc : Thread _ _).loc Cert.MlpReferenceIdeal.main_arg5))
          (m ((c.tc : Thread _ _).loc Cert.MlpReferenceIdeal.main_arg6))
          (m ((c.tc : Thread _ _).loc Cert.MlpReferenceIdeal.main_arg7))
          (m ((c.tc : Thread _ _).loc Cert.MlpReferenceIdeal.main_arg8))
          (m ((c.tc : Thread _ _).loc Cert.MlpReferenceIdeal.main_arg9))
          (m ((c.tc : Thread _ _).loc Cert.MlpReferenceIdeal.main_arg10))
          (m ((c.tc : Thread _ _).loc Cert.MlpReferenceIdeal.main_arg11))
          (m ((c.tc : Thread _ _).loc Cert.MlpReferenceIdeal.main_arg12))
          ⟨(i 0 : ℕ) / 8192, by have : (i 0 : ℕ) < 32768 := (i 0).isLt; omega⟩ ⟨(i 0 : ℕ) % 8192, by omega⟩ (i 1) := by
  idx_vars i
  exact Cert.MlpReferenceIdeal.Pure.ref_at m c i0 i1

/-- A token's row depends on the arrays only. -/
theorem token_congr {oa ob oc oa' ob' oc' : FVec Ideal Cert.MlpReferenceIdeal.S4x8192x512 .f32}
    {h h' : FVec Ideal Cert.MlpReferenceIdeal.S4x8192x6408 .f32} {x x' : FVec Ideal Cert.MlpReferenceIdeal.S4x8192x1024 .f32}
    {pa pb pc pa' pb' pc' : FVec Ideal Cert.MlpReferenceIdeal.S512x1024 .f32}
    {wo wo' : FVec Ideal Cert.MlpReferenceIdeal.S1024x1024 .f32} {n2 n2' : FVec Ideal Cert.MlpReferenceIdeal.S1024 .f32}
    {wu wu' : FVec Ideal Cert.MlpReferenceIdeal.S1024x4096 .f32} {wd wd' : FVec Ideal Cert.MlpReferenceIdeal.S4096x1024 .f32}
    {fw fw' : FVec Ideal Cert.MlpReferenceIdeal.S1024 .f32}
    (h0 : oa = oa') (h1 : ob = ob') (h2 : oc = oc') (h3 : h = h') (h4 : x = x') (h5 : pa = pa') (h6 : pb = pb')
    (h7 : pc = pc') (h8 : wo = wo') (h9 : n2 = n2') (h10 : wu = wu') (h11 : wd = wd') (h12 : fw = fw')
    (b : Fin 4) (s : Fin 8192) (l : Fin 1024) :
    Cert.MlpReferenceIdeal.Pure.token oa ob oc h x pa pb pc wo n2 wu wd fw b s l
      = Cert.MlpReferenceIdeal.Pure.token oa' ob' oc' h' x' pa' pb' pc' wo' n2' wu' wd' fw' b s l := by
  subst h0 h1 h2 h3 h4 h5 h6 h7 h8 h9 h10 h11 h12
  rfl

set_option maxHeartbeats 2000000 in
/-- Kernel and reference agree. -/
theorem algebraic : Cert.algebraic_MlpKernelIdeal_MlpReferenceIdeal := by
  pair_intro
  · run_from Cert.MlpKernelIdeal.Gen.run_main m g
  · run_from Cert.MlpReferenceIdeal.Value.run m' g'
    refine (funext fun i => ref_eq m' c i).trans (Eq.trans ?_ (Cert.MlpKernelIdeal.Tie.final m c).symm)
    obtain ⟨h0, h1, h2, h3, h4, h5, h6, h7, h8, h9, h10, h11, h12⟩ := hagree c
    exact funext fun i => token_congr h0 h1 h2 h3 h4 h5 h6 h7 h8 h9 h10 h11 h12 _ _ _

end Cert.MlpTie

end
-- ==== Proof.InRows.lean ====
/- The mathematics of the in-projection's rows, over the extended reals: the projected row, the short convolution over the
   rows before it, and the norms of the query and key heads.  Kernel and reference are each shown to compute these. -/
module

public import proofs.«01_k».proof.Proof.Rows

@[expose] public section

noncomputable section

namespace Cert.Rows

open Idealize.ShloMosaic

/-- The normed row `x`, projected to column `j`. -/
def projected (x n1 : Fin 1024 → EReal) (w : Fin 1024 → EReal) : EReal := ∑ k, rms x n1 k * w k

/-- Column `j` of the kernels' order of the projection's columns, zero in the padding. -/
def reorder (f : Fin 6408 → EReal) (j : Fin 6528) : EReal :=
  if h : j.val < 3072 then f ⟨3336 + j, by omega⟩
  else if h : j.val < 4608 then f ⟨512 + (j - 3072), by omega⟩
  else if h : j.val < 5120 then f ⟨j - 4608, by omega⟩
  else if h : j.val < 5632 then f ⟨2048 + (j - 5120), by omega⟩
  else if h : j.val < 6144 then f ⟨2568 + (j - 5632), by omega⟩
  else if h : j.val < 6400 then f ⟨3080 + (j - 6144), by omega⟩
  else if h : j.val < 6408 then f ⟨2560 + (j - 6400), by omega⟩
  else 0

/-- The four taps of the short convolution and its gate. -/
def conv (e c : Fin 4 → EReal) : EReal :=
  (e 0 * c 0 + e 1 * c 1 + e 2 * c 2 + e 3 * c 3) * Ideal.logistic (e 0 * c 0 + e 1 * c 1 + e 2 * c 2 + e 3 * c 3)

/-- A head's numbers over their length. -/
def unit (v : Fin 128 → EReal) (l : Fin 128) : EReal :=
  v l * Ideal.rsqrt ((∑ k, v k * v k) + Ideal.ofBits .f32 0x358637BD#32)

/-- Head `g` of a convolved row. -/
def head (y : Fin 1536 → EReal) (g : Fin 12) (l : Fin 128) : EReal := y ⟨g * 128 + l, by omega⟩

/-- The convolved row with its four query heads normed and scaled, its four key heads normed, its values as they are. -/
def heads (y : Fin 1536 → EReal) (g : Fin 12) (l : Fin 128) : EReal :=
  if g.val < 4 then unit (head y g) l * Ideal.ofBits .f32 0x3DB504F3#32
  else if g.val < 8 then unit (head y g) l
  else head y g l

/-- A projection through reordered weights is the reordered projection. -/
theorem sum_reorder (n : Fin 1024 → EReal) (w : Fin 1024 → Fin 6408 → EReal) (j : Fin 6528) :
    ∑ k, n k * reorder (w k) j = reorder (fun c => ∑ k, n k * w k c) j := by
  unfold reorder
  split_ifs <;> first | rfl | simp

/-- The taps in the other order. -/
theorem conv_rotated (e c : Fin 4 → EReal) :
    (e 3 * c 3 + e 0 * c 0 + e 1 * c 1 + e 2 * c 2) * Ideal.logistic (e 3 * c 3 + e 0 * c 0 + e 1 * c 1 + e 2 * c 2) = conv e c := by
  have h : e 3 * c 3 + e 0 * c 0 + e 1 * c 1 + e 2 * c 2 = e 0 * c 0 + e 1 * c 1 + e 2 * c 2 + e 3 * c 3 := by
    rw [add_assoc, add_assoc, add_comm (e 3 * c 3), ← add_assoc]
  unfold conv
  rw [h]

end Cert.Rows

end
-- ==== Proof.InBlocks.lean ====
/- What the in-projection kernel's windows hold at each grid point, in terms of the argument arrays. -/
module

public import proofs.«01_k».proof.Proof.Gen.InKernelIdeal.Value
public import proofs.«01_k».proof.Proof.InRows
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InKernelIdeal.Tie

open Cert.InKernelIdeal Cert.InKernelIdeal.Gen Cert.Rows

variable (m : (ℓ : Loc nD τ sig) → Buf (Elt Ideal) ℓ)

/-- Where each window's block sits at grid point `t`. -/
theorem idx : ∀ t : Fin cfg0.N, win0_0.index t = ![t.val, 0] ∧ win0_1.index t = ![0, 0] ∧ win0_2.index t = ![0, 0]
    ∧ win0_3.index t = ![t.val / 16, 0, 0] ∧ win0_4.index t = ![0, 0] ∧ win0_5.index t = ![t.val, 0]
    ∧ win0_6.index t = ![t.val, 0, 0] ∧ t.val < 64 :=
  (by decide +kernel : ∀ t : Fin grid0.N, _)

/-- The grid has 64 points. -/
theorem lt64 (t : Fin cfg0.N) : t.val < 64 := (idx t).2.2.2.2.2.2.2

/-- The batch of row `y` of the tile at grid point `t`. -/
def tb (t : Fin cfg0.N) (y : Fin 512) : Fin 4 := ⟨(t.val * 512 + y.val) / 8192, by have := lt64 t; omega⟩

/-- The position of that row in its batch. -/
def ts (t : Fin cfg0.N) (y : Fin 512) : Fin 8192 := ⟨(t.val * 512 + y.val) % 8192, by omega⟩

/-- The weights, their columns in the kernels' order, padded by zeros. -/
def pack (w : FVec Ideal S1024x6408 .f32) : FVec Ideal S1024x6528 .bf16 :=
  concatenate S1024x6528 1
    [⟨S1024x3072, truncf .bf16 ((extractStridedSlice S1024x3072 ![0, 3336] · slices_S1024x6408_S1024x3072_0_3336) w) bitsLt_bf16_f32⟩,
     ⟨S1024x1536, truncf .bf16 ((extractStridedSlice S1024x1536 ![0, 512] · slices_S1024x6408_S1024x1536_0_512) w) bitsLt_bf16_f32⟩,
     ⟨S1024x512, truncf .bf16 ((extractStridedSlice S1024x512 ![0, 0] · slices_S1024x6408_S1024x512_0_0) w) bitsLt_bf16_f32⟩,
     ⟨S1024x512, truncf .bf16 ((extractStridedSlice S1024x512 ![0, 2048] · slices_S1024x6408_S1024x512_0_2048) w) bitsLt_bf16_f32⟩,
     ⟨S1024x512, truncf .bf16 ((extractStridedSlice S1024x512 ![0, 2568] · slices_S1024x6408_S1024x512_0_2568) w) bitsLt_bf16_f32⟩,
     ⟨S1024x256, truncf .bf16 ((extractStridedSlice S1024x256 ![0, 3080] · slices_S1024x6408_S1024x256_0_3080) w) bitsLt_bf16_f32⟩,
     ⟨S1024x8, truncf .bf16 ((extractStridedSlice S1024x8 ![0, 2560] · slices_S1024x6408_S1024x8_0_2560) w) bitsLt_bf16_f32⟩,
     ⟨S1024x120, broadcastInDim S1024x120 ![] bcast_S_S1024x120 (constant S_ .bf16 0x0000#16)⟩]
    concatenates_S1024x3072_S1024x1536_S1024x512_S1024x512_S1024x512_S1024x256_S1024x8_S1024x120_S1024x6528_d1

/-- The packed weights the kernel is given. -/
theorem v20 (c : Dev nD) :
    (show FVec Ideal S1024x6528 .bf16 from V m c main_v20) = pack (m ((c : Thread nD τ).loc main_arg2)) := by
  rfl

set_option maxHeartbeats 4000000 in
/-- The packed weights, read at one entry. -/
theorem pack_at (w : FVec Ideal S1024x6408 .f32) (k : Fin 1024) (j : Fin 6528) :
    pack w (ix2 k j) = reorder (fun l => w (ix2 k l)) j := by
  unfold reorder pack
  pointwise
  have hj := j.isLt
  rcases (show j.val < 3072 ∨ (3072 ≤ j.val ∧ j.val < 4608) ∨ (4608 ≤ j.val ∧ j.val < 5120)
      ∨ (5120 ≤ j.val ∧ j.val < 5632) ∨ (5632 ≤ j.val ∧ j.val < 6144) ∨ (6144 ≤ j.val ∧ j.val < 6400)
      ∨ (6400 ≤ j.val ∧ j.val < 6408) ∨ 6408 ≤ j.val
    by omega) with c | c | c | c | c | c | c | c
  all_goals
    repeat first
      | rewrite [dif_neg (by omega)]
      | rewrite [dif_pos (by omega)]
    first
    | exact congrArg w (congrArg (ix2 k) (Fin.ext (by first | omega | (simp only []; omega))))
    | rfl

set_option maxHeartbeats 1600000 in
/-- The rows, the norm's weights and the taps' weights of the tile at `t`. -/
theorem rows (c : Dev nD) (t : Fin cfg0.N) :
    (∀ (y : Fin 512) (k : Fin 1024), iblk m c 0 t (ix2 y k) = m ((c : Thread nD τ).loc main_arg0) (ix3 (tb t y) (ts t y) k))
    ∧ (∀ k : Fin 1024, iblk m c 1 t (ix2 0 k) = m ((c : Thread nD τ).loc main_arg1) (ix1 k))
    ∧ (∀ (i : Fin 8) (d : Fin 1536), iblk m c 3 t (ix3 0 i d) = m ((c : Thread nD τ).loc main_arg3) (ix2 ⟨8 + i, by omega⟩ d))
    ∧ (∀ (j : Fin 4) (d : Fin 1536), iblk m c 4 t (ix2 j d) = m ((c : Thread nD τ).loc main_arg4) (ix2 j d)) := by
  refine ⟨fun y k => ?_, fun k => ?_, fun i d => ?_, fun j d => ?_⟩ <;>
  · blk_simp [iblk]
    entry_read
    pointwise
    try unfold tb ts
    blk_ext [idx t]

/-- The packed weights' window. -/
theorem weights (c : Dev nD) (t : Fin cfg0.N) (k : Fin 1024) (j : Fin 6528) :
    iblk m c 2 t (ix2 k j) = reorder (fun l => m ((c : Thread nD τ).loc main_arg2) (ix2 k l)) j := by
  unfold Gen.iblk
  refine Eq.trans (congrArg (V m c main_v20) ?_) ((congrFun (v20 m c) (ix2 k j)).trans (pack_at _ k j))
  blk_ext [idx t]

end Cert.InKernelIdeal.Tie

end
-- ==== Proof.InPay.lean ====
/- What the stored payloads of the in-projection kernel are, at one row and one column. -/
module

public import proofs.«01_k».proof.Proof.Gen.InKernelIdeal.Skeleton
public import proofs.«01_k».proof.Proof.InRows

@[expose] public section

set_option maxRecDepth 16384

noncomputable section

open Idealize.ShloMosaic Idealize.ShloMosaic.TcCoe Idealize.SL.Sem

namespace Cert.InKernelIdeal.Pure

open Cert.InKernelIdeal Cert.InKernelIdeal.Gen Cert.Rows

/-- The normed row. -/
theorem pay5_at (x : Vec Ideal S512x1024 .f32) (n : Vec Ideal S1x1024 .f32) (r : Fin 512) (l : Fin 1024) :
    k0_pay5 (F := Ideal) x n (ix2 r l) = rms (fun j => x (ix2 r j)) (fun j => n (ix2 0 j)) l := by
  unfold rms
  pointwise [k0_pay5]
  try simp only [zero_add]

/-- The query, key and value columns, before the convolution. -/
theorem pay6_at (x : Vec Ideal S512x1024 .f32) (n : Vec Ideal S1x1024 .f32) (w : Vec Ideal S1024x1536 .bf16)
    (r : Fin 512) (l : Fin 1536) :
    k0_pay6 (F := Ideal) x n w (ix2 r l)
      = ∑ k : Fin 1024, k0_pay5 (F := Ideal) x n (ix2 r k) * w (ix2 k l) := by
  pointwise [k0_pay6]
  try simp only [zero_add]

/-- A plain product of 1536 columns. -/
theorem pay1_at (x : FVec Ideal S512x1024 .bf16) (w : Vec Ideal S1024x1536 .bf16) (r : Fin 512) (l : Fin 1536) :
    k0_pay1 (F := Ideal) x w (ix2 r l) = ∑ k : Fin 1024, x (ix2 r k) * w (ix2 k l) := by
  pointwise [k0_pay1]
  try simp only [zero_add]

/-- A plain product of 1536 columns. -/
theorem pay19_at (x : FVec Ideal S512x1024 .bf16) (w : Vec Ideal S1024x1536 .bf16) (r : Fin 512) (l : Fin 1536) :
    k0_pay19 (F := Ideal) x w (ix2 r l) = ∑ k : Fin 1024, x (ix2 r k) * w (ix2 k l) := by
  pointwise [k0_pay19]
  try simp only [zero_add]

/-- A plain product of 1536 columns. -/
theorem pay20_at (x : FVec Ideal S512x1024 .bf16) (w : Vec Ideal S1024x1536 .bf16) (r : Fin 512) (l : Fin 1536) :
    k0_pay20 (F := Ideal) x w (ix2 r l) = ∑ k : Fin 1024, x (ix2 r k) * w (ix2 k l) := by
  pointwise [k0_pay20]
  try simp only [zero_add]

/-- A plain product of 384 columns. -/
theorem pay2_at (x : FVec Ideal S512x1024 .bf16) (w : Vec Ideal S1024x384 .bf16) (r : Fin 512) (l : Fin 384) :
    k0_pay2 (F := Ideal) x w (ix2 r l) = ∑ k : Fin 1024, x (ix2 r k) * w (ix2 k l) := by
  pointwise [k0_pay2]
  try simp only [zero_add]

/-- The convolved and gated rows. -/
theorem pay9_at (e : Vec Ideal S520x1536 .f32) (w3 w0 w1 w2 : Vec Ideal S1x1536 .f32) (r : Fin 512) (l : Fin 1536) :
    k0_pay9 (F := Ideal) e w3 w0 w1 w2 (ix2 r l)
      = conv (fun j => e (ix2 ⟨r + 5 + j, by omega⟩ l)) ![w0 (ix2 0 l), w1 (ix2 0 l), w2 (ix2 0 l), w3 (ix2 0 l)] := by
  have h3 : (⟨(8 + r.val + 520 - 3) % 520, by omega⟩ : Fin 520) = ⟨r.val + 5, by omega⟩ := Fin.ext (by simp only []; omega)
  have h2 : (⟨(8 + r.val + 520 - 2) % 520, by omega⟩ : Fin 520) = ⟨r.val + 5 + 1, by omega⟩ := Fin.ext (by simp only []; omega)
  have h1 : (⟨(8 + r.val + 520 - 1) % 520, by omega⟩ : Fin 520) = ⟨r.val + 5 + 2, by omega⟩ := Fin.ext (by simp only []; omega)
  have h0 : (⟨8 + r.val, by omega⟩ : Fin 520) = ⟨r.val + 5 + 3, by omega⟩ := Fin.ext (by simp only []; omega)
  rw [← conv_rotated]
  pointwise [k0_pay9]
  simp only [h0, h1, h2, h3]

/-- A kept tile is the tile. -/
theorem pay7_eq (v : FVec Ideal S512x1536 .f32) : k0_pay7 (F := Ideal) v = v := by
  funext i
  idx_vars i
  pointwise [k0_pay7]

/-- Kept rows are the rows. -/
theorem pay4_eq (v : Vec Ideal S8x1536 .f32) : k0_pay4 (F := Ideal) v = v := by
  funext i
  idx_vars i
  pointwise [k0_pay4]

/-- The rows before a batch's first token. -/
theorem pay3_at (v : Vec Ideal S1x8x1536 .f32) (i : Fin 8) (d : Fin 1536) : k0_pay3 (F := Ideal) v (ix2 i d) = v (ix3 0 i d) := by
  pointwise [k0_pay3]

/-- A tile's last eight rows. -/
theorem pay8_at (v : FVec Ideal S512x1536 .f32) (i : Fin 8) (d : Fin 1536) :
    k0_pay8 (F := Ideal) v (ix3 0 i d) = v (ix2 ⟨504 + i, by omega⟩ d) := by
  pointwise [k0_pay8]

/-- The first query head. -/
theorem pay11_at (e : Vec Ideal S520x1536 .f32) (w3 w0 w1 w2 : Vec Ideal S1x1536 .f32) (c : EReal) (r : Fin 512) (l : Fin 128) :
    k0_pay11 (F := Ideal) (k0_pay10 e w3 w0 w1 w2) c (ix2 r l)
      = unit (fun l => k0_pay9 (F := Ideal) e w3 w0 w1 w2 (ix2 r ⟨l, by omega⟩)) l * c := by
  unfold unit
  pointwise [k0_pay11, k0_pay10]
  try simp only [zero_add]

/-- The second query head. -/
theorem pay12_at (y : FVec Ideal S512x1536 .f32) (r : Fin 512) (l : Fin 128) :
    k0_pay12 (F := Ideal) y (ix2 r l) = unit (fun l => y (ix2 r ⟨128 + l, by omega⟩)) l * Ideal.ofBits .f32 0x3DB504F3#32 := by
  unfold unit
  pointwise [k0_pay12]
  try simp only [zero_add]

/-- The third query head. -/
theorem pay13_at (y : FVec Ideal S512x1536 .f32) (r : Fin 512) (l : Fin 128) :
    k0_pay13 (F := Ideal) y (ix2 r l) = unit (fun l => y (ix2 r ⟨256 + l, by omega⟩)) l * Ideal.ofBits .f32 0x3DB504F3#32 := by
  unfold unit
  pointwise [k0_pay13]
  try simp only [zero_add]

/-- The fourth query head. -/
theorem pay14_at (y : FVec Ideal S512x1536 .f32) (r : Fin 512) (l : Fin 128) :
    k0_pay14 (F := Ideal) y (ix2 r l) = unit (fun l => y (ix2 r ⟨384 + l, by omega⟩)) l * Ideal.ofBits .f32 0x3DB504F3#32 := by
  unfold unit
  pointwise [k0_pay14]
  try simp only [zero_add]

/-- The first key head. -/
theorem pay15_at (y : FVec Ideal S512x1536 .f32) (r : Fin 512) (l : Fin 128) :
    k0_pay15 (F := Ideal) y (ix2 r l) = unit (fun l => y (ix2 r ⟨512 + l, by omega⟩)) l := by
  unfold unit
  pointwise [k0_pay15]
  try simp only [zero_add]

/-- The second key head before its norm. -/
theorem pay16_at (y : FVec Ideal S512x1536 .f32) (r : Fin 512) (l : Fin 128) :
    k0_pay16 (F := Ideal) y (ix2 r l) = y (ix2 r ⟨640 + l, by omega⟩) := by
  pointwise [k0_pay16]

/-- The second key head's square length. -/
theorem pay17_at (y : FVec Ideal S512x1536 .f32) (r : Fin 512) :
    k0_pay17 (F := Ideal) y (ix2 r 0) = ∑ l : Fin 128, y (ix2 r ⟨640 + l, by omega⟩) * y (ix2 r ⟨640 + l, by omega⟩) := by
  pointwise [k0_pay17, k0_pay16]
  try simp only [zero_add]

end Cert.InKernelIdeal.Pure

end
-- ==== Proof.InRef.lean ====
/- The in-projection reference, read at one token and one column. -/
module

public import proofs.«01_k».proof.Proof.Gen.InReferenceIdeal.Run
public import proofs.«01_k».proof.Proof.InRows

@[expose] public section

set_option maxRecDepth 16384

noncomputable section

open Idealize.ShloMosaic Idealize.ShloMosaic.TcCoe Idealize.SL.Sem

namespace Cert.InReferenceIdeal.Pure

open Cert.InReferenceIdeal Cert.InReferenceIdeal.Gen Cert.InReferenceIdeal.Value Cert.Rows

/-- The reference's projected rows. -/
def refH (a0 : FVec Ideal S4x8192x1024 .f32) (a1 : FVec Ideal S1024 .f32) (a2 : FVec Ideal S1024x6408 .f32) : FVec Ideal S4x8192x6408 .f32 :=
  Host.dotGeneral dot_S4x8192x1024_S1024x6408_S4x8192x6408_2_0_01_1_n_n none (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1))) a2

/-- The reference's query, key and value columns. -/
def refU (h : FVec Ideal S4x8192x6408 .f32) : FVec Ideal S4x8192x1536 .f32 :=
  (concatenate S4x8192x1536 2 [⟨S4x8192x512, ((extractStridedSlice S4x8192x512 ![0, 0, 512] h slices_S4x8192x6408_S4x8192x512_0_0_512))⟩, ⟨S4x8192x512, ((extractStridedSlice S4x8192x512 ![0, 0, 1024] h slices_S4x8192x6408_S4x8192x512_0_0_1024))⟩, ⟨S4x8192x512, ((extractStridedSlice S4x8192x512 ![0, 0, 1536] h slices_S4x8192x6408_S4x8192x512_0_0_1536))⟩] concatenates_S4x8192x512_S4x8192x512_S4x8192x512_S4x8192x1536_d2)

/-- Those columns behind the three rows before the first token. -/
def refExt (a3 : FVec Ideal S16x1536 .f32) (u : FVec Ideal S4x8192x1536 .f32) : FVec Ideal S4x8195x1536 .f32 :=
  concatenate S4x8195x1536 1 [⟨S4x3x1536, (broadcastInDim S4x3x1536 ![0, 1, 2] bcast_S1x3x1536_S4x3x1536_0_1_2 (broadcastInDim S1x3x1536 ![1, 2] bcast_S3x1536_S1x3x1536_1_2 (extractStridedSlice S3x1536 ![13, 0] a3 slices_S16x1536_S3x1536_13_0)))⟩, ⟨S4x8192x1536, u⟩] concatenates_S4x3x1536_S4x8192x1536_S4x8195x1536_d1

/-- The reference's four taps. -/
def refTaps (e : FVec Ideal S4x8195x1536 .f32) (a4 : FVec Ideal S4x1536 .f32) : FVec Ideal S4x8192x1536 .f32 :=
  addf (addf (addf (mulf (extractStridedSlice S4x8192x1536 ![0, 0, 0] e slices_S4x8195x1536_S4x8192x1536_0_0_0) (broadcastInDim S4x8192x1536 ![0, 1, 2] bcast_S1x1x1536_S4x8192x1536_0_1_2 (broadcastInDim S1x1x1536 ![2] bcast_S1536_S1x1x1536_2 (shapeCast _ (extractStridedSlice S1x1536 ![0, 0] a4 slices_S4x1536_S1x1536_0_0) shapeCasts_S1x1536_S1536)))) (mulf (extractStridedSlice S4x8192x1536 ![0, 1, 0] e slices_S4x8195x1536_S4x8192x1536_0_1_0) (broadcastInDim S4x8192x1536 ![0, 1, 2] bcast_S1x1x1536_S4x8192x1536_0_1_2 (broadcastInDim S1x1x1536 ![2] bcast_S1536_S1x1x1536_2 (shapeCast _ (extractStridedSlice S1x1536 ![1, 0] a4 slices_S4x1536_S1x1536_1_0) shapeCasts_S1x1536_S1536))))) (mulf (extractStridedSlice S4x8192x1536 ![0, 2, 0] e slices_S4x8195x1536_S4x8192x1536_0_2_0) (broadcastInDim S4x8192x1536 ![0, 1, 2] bcast_S1x1x1536_S4x8192x1536_0_1_2 (broadcastInDim S1x1x1536 ![2] bcast_S1536_S1x1x1536_2 (shapeCast _ (extractStridedSlice S1x1536 ![2, 0] a4 slices_S4x1536_S1x1536_2_0) shapeCasts_S1x1536_S1536))))) (mulf (extractStridedSlice S4x8192x1536 ![0, 3, 0] e slices_S4x8195x1536_S4x8192x1536_0_3_0) (broadcastInDim S4x8192x1536 ![0, 1, 2] bcast_S1x1x1536_S4x8192x1536_0_1_2 (broadcastInDim S1x1x1536 ![2] bcast_S1536_S1x1x1536_2 (shapeCast _ (extractStridedSlice S1x1536 ![3, 0] a4 slices_S4x1536_S1x1536_3_0) shapeCasts_S1x1536_S1536))))

/-- The reference's gate. -/
def refGate (y : FVec Ideal S4x8192x1536 .f32) : FVec Ideal S4x8192x1536 .f32 :=
  mulf y (Host.divf (broadcastInDim S4x8192x1536 ![] bcast_S_S4x8192x1536 (constant S_ .f32 0x3F800000#32)) (addf (broadcastInDim S4x8192x1536 ![] bcast_S_S4x8192x1536 (constant S_ .f32 0x3F800000#32)) (Host.exp (Host.negf y))))

/-- The reference's query heads. -/
def refQ (z : FVec Ideal S4x8192x1536 .f32) : FVec Ideal S4x8192x4x128 .f32 :=
  shapeCast _ (extractStridedSlice S4x8192x512 ![0, 0, 0] z slices_S4x8192x1536_S4x8192x512_0_0_0) shapeCasts_S4x8192x512_S4x8192x4x128

/-- The reference's key heads. -/
def refK (z : FVec Ideal S4x8192x1536 .f32) : FVec Ideal S4x8192x4x128 .f32 :=
  shapeCast _ (extractStridedSlice S4x8192x512 ![0, 0, 512] z slices_S4x8192x1536_S4x8192x512_0_0_512) shapeCasts_S4x8192x512_S4x8192x4x128

/-- The query heads normed and scaled. -/
def refQn (q : FVec Ideal S4x8192x4x128 .f32) : FVec Ideal S4x8192x512 .f32 :=
  shapeCast _ (mulf (mulf q (broadcastInDim S4x8192x4x128 ![0, 1, 2, 3] bcast_S4x8192x4x1_S4x8192x4x128_0_1_2_3 (Host.rsqrt (addf (broadcastInDim S4x8192x4x1 ![0, 1, 2] bcast_S4x8192x4_S4x8192x4x1_0_1_2 (Host.reduceAdd (mulf q q) (constant S_ .f32 0x00000000#32) reducesTo_S4x8192x4x128_S4x8192x4_d3 h_S_)) (broadcastInDim S4x8192x4x1 ![] bcast_S_S4x8192x4x1 (constant S_ .f32 0x358637BD#32)))))) (broadcastInDim S4x8192x4x128 ![] bcast_S_S4x8192x4x128 (constant S_ .f32 0x3DB504F3#32))) shapeCasts_S4x8192x4x128_S4x8192x512

/-- The key heads normed. -/
def refKn (k : FVec Ideal S4x8192x4x128 .f32) : FVec Ideal S4x8192x512 .f32 :=
  shapeCast _ (mulf k (broadcastInDim S4x8192x4x128 ![0, 1, 2, 3] bcast_S4x8192x4x1_S4x8192x4x128_0_1_2_3 (Host.rsqrt (addf (broadcastInDim S4x8192x4x1 ![0, 1, 2] bcast_S4x8192x4_S4x8192x4x1_0_1_2 (Host.reduceAdd (mulf k k) (constant S_ .f32 0x00000000#32) reducesTo_S4x8192x4x128_S4x8192x4_d3 h_S_)) (broadcastInDim S4x8192x4x1 ![] bcast_S_S4x8192x4x1 (constant S_ .f32 0x358637BD#32)))))) shapeCasts_S4x8192x4x128_S4x8192x512

/-- The reference's rows in the kernels' order of the columns. -/
def refPacked (h : FVec Ideal S4x8192x6408 .f32) (qn kn : FVec Ideal S4x8192x512 .f32) (z : FVec Ideal S4x8192x1536 .f32) : FVec Ideal S32768x6528 .bf16 :=
  truncf .bf16 (shapeCast _ ((concatenate S4x8192x6528 2 [⟨S4x8192x1024, ((extractStridedSlice S4x8192x1024 ![0, 0, 3336] h slices_S4x8192x6408_S4x8192x1024_0_0_3336))⟩, ⟨S4x8192x1024, ((extractStridedSlice S4x8192x1024 ![0, 0, 4360] h slices_S4x8192x6408_S4x8192x1024_0_0_4360))⟩, ⟨S4x8192x1024, ((extractStridedSlice S4x8192x1024 ![0, 0, 5384] h slices_S4x8192x6408_S4x8192x1024_0_0_5384))⟩, ⟨S4x8192x512, ((qn))⟩, ⟨S4x8192x512, ((kn))⟩, ⟨S4x8192x512, ((extractStridedSlice S4x8192x512 ![0, 0, 1024] z slices_S4x8192x1536_S4x8192x512_0_0_1024))⟩, ⟨S4x8192x512, ((extractStridedSlice S4x8192x512 ![0, 0, 0] h slices_S4x8192x6408_S4x8192x512_0_0_0))⟩, ⟨S4x8192x512, ((extractStridedSlice S4x8192x512 ![0, 0, 2048] h slices_S4x8192x6408_S4x8192x512_0_0_2048))⟩, ⟨S4x8192x512, ((extractStridedSlice S4x8192x512 ![0, 0, 2568] h slices_S4x8192x6408_S4x8192x512_0_0_2568))⟩, ⟨S4x8192x128, ((extractStridedSlice S4x8192x128 ![0, 0, 3080] h slices_S4x8192x6408_S4x8192x128_0_0_3080))⟩, ⟨S4x8192x128, ((extractStridedSlice S4x8192x128 ![0, 0, 3208] h slices_S4x8192x6408_S4x8192x128_0_0_3208))⟩, ⟨S4x8192x4, ((extractStridedSlice S4x8192x4 ![0, 0, 2560] h slices_S4x8192x6408_S4x8192x4_0_0_2560))⟩, ⟨S4x8192x4, ((extractStridedSlice S4x8192x4 ![0, 0, 2564] h slices_S4x8192x6408_S4x8192x4_0_0_2564))⟩, ⟨S4x8192x120, ((broadcastInDim S4x8192x120 ![] bcast_S_S4x8192x120 (constant S_ .f32 0x00000000#32)))⟩] concatenates_S4x8192x1024_S4x8192x1024_S4x8192x1024_S4x8192x512_S4x8192x512_S4x8192x512_S4x8192x512_S4x8192x512_S4x8192x512_S4x8192x128_S4x8192x128_S4x8192x4_S4x8192x4_S4x8192x120_S4x8192x6528_d2)) shapeCasts_S4x8192x6528_S32768x6528) bitsLt_bf16_f32

/-- The last eight rows of every tile. -/
def refTails (u : FVec Ideal S4x8192x1536 .f32) : FVec Ideal S64x8x1536 .f32 :=
  extractStridedSlice S64x8x1536 ![0, 504, 0] (shapeCast _ u shapeCasts_S4x8192x1536_S64x512x1536) slices_S64x512x1536_S64x8x1536_0_504_0

theorem refH_at (x : FVec Ideal S4x8192x1024 .f32) (n : FVec Ideal S1024 .f32) (w : FVec Ideal S1024x6408 .f32)
    (b : Fin 4) (s : Fin 8192) (l : Fin 6408) :
    refH x n w (ix3 b s l) = projected (fun j => x (ix3 b s j)) (fun j => n (ix1 j)) (fun k => w (ix2 k l)) := by
  unfold projected rms
  pointwise [refH]
  try simp only [zero_add]

theorem refU_at (h : FVec Ideal S4x8192x6408 .f32) (b : Fin 4) (s : Fin 8192) (d : Fin 1536) :
    refU h (ix3 b s d) = h (ix3 b s ⟨512 + d, by omega⟩) := by
  pointwise [refU]
  split_ifs <;> exact congrArg h (congrArg (ix3 b s) (Fin.ext (by first | omega | (simp only []; omega))))

theorem refExt_at (a3 : FVec Ideal S16x1536 .f32) (u : FVec Ideal S4x8192x1536 .f32) (b : Fin 4) (p : Fin 8195) (d : Fin 1536) :
    refExt a3 u (ix3 b p d) = if h : p.val < 3 then a3 (ix2 ⟨13 + p, by omega⟩ d) else u (ix3 b ⟨p - 3, by omega⟩ d) := by
  pointwise [refExt]

theorem refGate_at (e : FVec Ideal S4x8195x1536 .f32) (c : FVec Ideal S4x1536 .f32) (b : Fin 4) (s : Fin 8192) (d : Fin 1536) :
    refGate (refTaps e c) (ix3 b s d) = conv (fun j => e (ix3 b ⟨s + j, by omega⟩ d)) (fun j => c (ix2 j d)) := by
  have h1 : (⟨1 + s.val, by omega⟩ : Fin 8195) = ⟨s.val + 1, by omega⟩ := Fin.ext (by simp only []; omega)
  have h2 : (⟨2 + s.val, by omega⟩ : Fin 8195) = ⟨s.val + 2, by omega⟩ := Fin.ext (by simp only []; omega)
  have h3 : (⟨3 + s.val, by omega⟩ : Fin 8195) = ⟨s.val + 3, by omega⟩ := Fin.ext (by simp only []; omega)
  unfold conv Ideal.logistic
  pointwise [refGate, refTaps]
  simp only [h1, h2, h3]

theorem refQn_at (z : FVec Ideal S4x8192x1536 .f32) (b : Fin 4) (s : Fin 8192) (d : Fin 512) :
    refQn (refQ z) (ix3 b s d) = unit (fun l => z (ix3 b s ⟨d / 128 * 128 + l, by omega⟩)) ⟨d % 128, by omega⟩ * Ideal.ofBits .f32 0x3DB504F3#32 := by
  have h : d.val / 128 * 128 + d.val % 128 = d.val := by omega
  unfold unit
  pointwise [refQn, refQ]
  simp only [h]

theorem refKn_at (z : FVec Ideal S4x8192x1536 .f32) (b : Fin 4) (s : Fin 8192) (d : Fin 512) :
    refKn (refK z) (ix3 b s d) = unit (fun l => z (ix3 b s ⟨512 + (d / 128 * 128 + l), by omega⟩)) ⟨d % 128, by omega⟩ := by
  have h : d.val / 128 * 128 + d.val % 128 = d.val := by omega
  unfold unit
  pointwise [refKn, refK]
  simp only [h]

set_option maxHeartbeats 4000000 in
theorem refPacked_at (h : FVec Ideal S4x8192x6408 .f32) (qn kn : FVec Ideal S4x8192x512 .f32) (z : FVec Ideal S4x8192x1536 .f32)
    (b : Fin 4) (s : Fin 8192) (j : Fin 6528) :
    refPacked h qn kn z (ix2 ⟨b * 8192 + s, by omega⟩ j)
      = if c : 3072 ≤ j.val ∧ j.val < 3584 then qn (ix3 b s ⟨j - 3072, by omega⟩)
        else if c : 3584 ≤ j.val ∧ j.val < 4096 then kn (ix3 b s ⟨j - 3584, by omega⟩)
        else if c : 4096 ≤ j.val ∧ j.val < 4608 then z (ix3 b s ⟨1024 + (j - 4096), by omega⟩)
        else reorder (fun l => h (ix3 b s l)) j := by
  unfold reorder
  pointwise [refPacked]
  have hj := j.isLt
  rcases (show j.val < 1024 ∨ (1024 ≤ j.val ∧ j.val < 2048) ∨ (2048 ≤ j.val ∧ j.val < 3072) ∨ (3072 ≤ j.val ∧ j.val < 3584)
      ∨ (3584 ≤ j.val ∧ j.val < 4096) ∨ (4096 ≤ j.val ∧ j.val < 4608) ∨ (4608 ≤ j.val ∧ j.val < 5120)
      ∨ (5120 ≤ j.val ∧ j.val < 5632) ∨ (5632 ≤ j.val ∧ j.val < 6144) ∨ (6144 ≤ j.val ∧ j.val < 6272)
      ∨ (6272 ≤ j.val ∧ j.val < 6400) ∨ (6400 ≤ j.val ∧ j.val < 6404) ∨ (6404 ≤ j.val ∧ j.val < 6408) ∨ 6408 ≤ j.val
    by omega) with c | c | c | c | c | c | c | c | c | c | c | c | c | c
  all_goals
    repeat first
      | rewrite [dif_neg (by omega)]
      | rewrite [dif_pos (by omega)]
    first
    | exact congrArg h (congrArg (ix3 b s) (Fin.ext (by first | omega | (simp only []; omega))))
    | exact congrArg qn (congrArg (ix3 b s) (Fin.ext (by first | omega | (simp only []; omega))))
    | exact congrArg kn (congrArg (ix3 b s) (Fin.ext (by first | omega | (simp only []; omega))))
    | exact congrArg z (congrArg (ix3 b s) (Fin.ext (by first | omega | (simp only []; omega))))
    | rfl

theorem refTails_at (u : FVec Ideal S4x8192x1536 .f32) (t : Fin 64) (i : Fin 8) (d : Fin 1536) :
    refTails u (ix3 t i d) = u (ix3 ⟨t / 16, by omega⟩ ⟨t % 16 * 512 + (504 + i), by omega⟩ d) := by
  pointwise [refTails]

/-- The projected row of token `(b, s)`. -/
def row (x : FVec Ideal S4x8192x1024 .f32) (n : FVec Ideal S1024 .f32) (w : FVec Ideal S1024x6408 .f32)
    (b : Fin 4) (s : Fin 8192) (l : Fin 6408) : EReal :=
  projected (fun j => x (ix3 b s j)) (fun j => n (ix1 j)) (fun k => w (ix2 k l))

/-- Position `p` of the query, key and value columns of batch `b`, the first three positions before the first token. -/
def tap (x : FVec Ideal S4x8192x1024 .f32) (n : FVec Ideal S1024 .f32) (w : FVec Ideal S1024x6408 .f32)
    (q : FVec Ideal S16x1536 .f32) (b : Fin 4) (p : Fin 8195) (d : Fin 1536) : EReal :=
  if h : p.val < 3 then q (ix2 ⟨13 + p, by omega⟩ d) else row x n w b ⟨p - 3, by omega⟩ ⟨512 + d, by omega⟩

/-- The convolved row of token `(b, s)`. -/
def convolved (x : FVec Ideal S4x8192x1024 .f32) (n : FVec Ideal S1024 .f32) (w : FVec Ideal S1024x6408 .f32)
    (q : FVec Ideal S16x1536 .f32) (c : FVec Ideal S4x1536 .f32) (b : Fin 4) (s : Fin 8192) (d : Fin 1536) : EReal :=
  conv (fun j => tap x n w q b ⟨s + j, by omega⟩ d) (fun j => c (ix2 j d))

/-- Column `j` of token `(b, s)` as the later kernels take it. -/
def token (x : FVec Ideal S4x8192x1024 .f32) (n : FVec Ideal S1024 .f32) (w : FVec Ideal S1024x6408 .f32)
    (q : FVec Ideal S16x1536 .f32) (c : FVec Ideal S4x1536 .f32) (b : Fin 4) (s : Fin 8192) (j : Fin 6528) : EReal :=
  if h : 3072 ≤ j.val ∧ j.val < 4608 then
    heads (convolved x n w q c b s) ⟨(j - 3072) / 128, by omega⟩ ⟨(j - 3072) % 128, by omega⟩
  else reorder (row x n w b s) j

/-- The reference's packed rows. -/
def packed (x : FVec Ideal S4x8192x1024 .f32) (n : FVec Ideal S1024 .f32) (w : FVec Ideal S1024x6408 .f32)
    (q : FVec Ideal S16x1536 .f32) (c : FVec Ideal S4x1536 .f32) : FVec Ideal S32768x6528 .bf16 :=
  refPacked (refH x n w) (refQn (refQ (refGate (refTaps (refExt q (refU (refH x n w))) c))))
    (refKn (refK (refGate (refTaps (refExt q (refU (refH x n w))) c)))) (refGate (refTaps (refExt q (refU (refH x n w))) c))

theorem gate_at (x : FVec Ideal S4x8192x1024 .f32) (n : FVec Ideal S1024 .f32) (w : FVec Ideal S1024x6408 .f32)
    (q : FVec Ideal S16x1536 .f32) (c : FVec Ideal S4x1536 .f32) (b : Fin 4) (s : Fin 8192) (d : Fin 1536) :
    refGate (refTaps (refExt q (refU (refH x n w))) c) (ix3 b s d) = convolved x n w q c b s d := by
  rw [refGate_at]
  unfold convolved tap row
  congr 1
  funext j
  rw [refExt_at]
  split_ifs
  · rfl
  · rw [refU_at, refH_at]

/-- The reference's packed rows are the tokens' columns. -/
theorem packed_at (x : FVec Ideal S4x8192x1024 .f32) (n : FVec Ideal S1024 .f32) (w : FVec Ideal S1024x6408 .f32)
    (q : FVec Ideal S16x1536 .f32) (c : FVec Ideal S4x1536 .f32) (b : Fin 4) (s : Fin 8192) (j : Fin 6528) :
    packed x n w q c (ix2 ⟨b * 8192 + s, by omega⟩ j) = token x n w q c b s j := by
  have hz : (fun d => refGate (refTaps (refExt q (refU (refH x n w))) c) (ix3 b s d)) = convolved x n w q c b s :=
    funext fun d => gate_at x n w q c b s d
  have hh : (fun l => refH x n w (ix3 b s l)) = row x n w b s := funext fun l => refH_at x n w b s l
  unfold packed token
  rw [refPacked_at, hh]
  simp only [refQn_at, refKn_at, gate_at]
  clear hz hh
  generalize convolved x n w q c b s = z
  by_cases hr : 3072 ≤ j.val ∧ j.val < 4608
  · rw [dif_pos hr]
    unfold heads head
    by_cases h1 : j.val < 3584
    · rw [dif_pos ⟨hr.1, h1⟩, if_pos (by simp only []; omega)]
    · rw [dif_neg (by omega), if_neg (by simp only []; omega)]
      by_cases h2 : j.val < 4096
      · have e : ∀ l : Fin 128, (⟨512 + ((j.val - 3584) / 128 * 128 + l), by omega⟩ : Fin 1536) = ⟨(j.val - 3072) / 128 * 128 + l, by omega⟩ :=
          fun l => Fin.ext (by simp only []; omega)
        have e' : (⟨(j.val - 3584) % 128, by omega⟩ : Fin 128) = ⟨(j.val - 3072) % 128, by omega⟩ := Fin.ext (by simp only []; omega)
        rw [dif_pos ⟨by omega, h2⟩, if_pos (by simp only []; omega), e']
        exact congrArg (unit · _) (funext fun l => congrArg z (e l))
      · rw [dif_neg (by omega), dif_pos ⟨by omega, by omega⟩, if_neg (by simp only []; omega)]
        exact congrArg z (Fin.ext (by simp only []; omega))
  · rw [dif_neg hr, dif_neg (by omega), dif_neg (by omega), dif_neg (by omega)]

end Cert.InReferenceIdeal.Pure

end
-- ==== Proof.InValue.lean ====
/- The in-projection kernel's two result arrays: row by row the functions `token` and `row` of the argument arrays. -/
module

public import proofs.«01_k».proof.Proof.InBlocks
public import proofs.«01_k».proof.Proof.InPay
public import proofs.«01_k».proof.Proof.InRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InKernelIdeal.Tie

open Cert.InKernelIdeal Cert.InKernelIdeal.Gen Cert.Rows Cert.InKernelIdeal.Pure
open Cert.InReferenceIdeal.Pure (row tap convolved token)

variable (m : (ℓ : Loc nD τ sig) → Buf (Elt Ideal) ℓ)

/-- The projected row of a token, over the argument arrays. -/
abbrev rowOf (c : Dev nD) : Fin 4 → Fin 8192 → Fin 6408 → EReal :=
  row (m ((c : Thread nD τ).loc main_arg0)) (m ((c : Thread nD τ).loc main_arg1)) (m ((c : Thread nD τ).loc main_arg2))

/-- A position of the query, key and value columns, over the argument arrays. -/
abbrev tapOf (c : Dev nD) : Fin 4 → Fin 8195 → Fin 1536 → EReal :=
  tap (m ((c : Thread nD τ).loc main_arg0)) (m ((c : Thread nD τ).loc main_arg1)) (m ((c : Thread nD τ).loc main_arg2))
    (m ((c : Thread nD τ).loc main_arg3))

/-- The tile's normed rows times any packed columns. -/
theorem product (c : Dev nD) (t : Fin cfg0.N) (y : Fin 512) (w : Fin 1024 → EReal) (j : Fin 6528)
    (hw : ∀ k, w k = iblk m c 2 t (ix2 k j)) :
    ∑ k : Fin 1024, k0_pay5 (F := Ideal) (iblk m c 0 t) (iblk m c 1 t) (ix2 y k) * w k
      = reorder (rowOf m c (tb t y) (ts t y)) j := by
  unfold rowOf row projected
  rw [← sum_reorder (rms (fun j => m ((c : Thread nD τ).loc main_arg0) (ix3 (tb t y) (ts t y) j)) (fun j => m ((c : Thread nD τ).loc main_arg1) (ix1 j)))
    (fun k l => m ((c : Thread nD τ).loc main_arg2) (ix2 k l)) j]
  refine Finset.sum_congr rfl fun k _ => ?_
  rw [hw, weights m c t k j, pay5_at]
  congr 2
  · exact funext fun j => (rows m c t).1 y j
  · exact funext fun j => (rows m c t).2.1 j

/-- The tile's query, key and value columns before the convolution. -/
abbrev tile (c : Dev nD) (t : Fin cfg0.N) : FVec Ideal S512x1536 .f32 :=
  k0_pay6 (F := Ideal) (iblk m c 0 t) (iblk m c 1 t)
    (View.ld (iblk m c 2 t) (Rect.unit ![0, 3072] ![1024, 1536] inb_S1024x6528_S1024x1536_0_3072))

theorem tile_eq (c : Dev nD) (t : Fin cfg0.N) (y : Fin 512) (d : Fin 1536) :
    tile m c t (ix2 y d) = rowOf m c (tb t y) (ts t y) ⟨512 + d, by omega⟩ := by
  unfold tile
  rw [pay6_at]
  refine (product m c t y _ ⟨3072 + d, by omega⟩ fun k => by pointwise).trans ?_
  unfold reorder
  rw [dif_neg (by simp only []; omega), dif_pos (by simp only []; omega)]
  exact congrArg _ (Fin.ext (by simp only []; omega))

/-- Eight rows above a tile: the buffer the convolution reads. -/
theorem stacked (bot : FVec Ideal S512x1536 .f32) (top : FVec Ideal S8x1536 .f32) (p : Fin 520) (d : Fin 1536) :
    View.canon (Val := Elt Ideal) (e := .f32) [⟨Rect.unit (s := S520x1536) ![8, 0] ![512, 1536] inb_S520x1536_S512x1536_8_0, bot⟩,
        ⟨Rect.unit (s := S520x1536) ![0, 0] ![8, 1536] inb_S520x1536_S8x1536_0_0, top⟩] (ix2 p d)
      = if h : p.val < 8 then top (ix2 ⟨p, h⟩ d) else bot (ix2 ⟨p - 8, by omega⟩ d) := by
  canon_tiles x h using View.cover_of_tiledBy _ ![8, 1536] (by sl_kernel_rfl) _
  · idx_vars x
    rw [dif_neg (by have e : ((ix2 p d : S520x1536.Idx) 0 : ℕ) = p.val := rfl; omega)]
    exact congrArg bot (by blk_ext)
  · idx_vars x
    rw [dif_pos (by have e : ((ix2 p d : S520x1536.Idx) 0 : ℕ) = p.val := rfl; omega)]
    exact congrArg top (by blk_ext)

/-- The rows of one batch counted from tile to tile. -/
theorem tap_row (c : Dev nD) (t t' : Fin cfg0.N) (y y' : Fin 512) (j : Fin 4) (d : Fin 1536)
    (h : t'.val * 512 + y'.val + 3 = t.val * 512 + y.val + j.val) (hb : 3 ≤ (ts t y).val + j.val) :
    rowOf m c (tb t' y') (ts t' y') ⟨512 + d, by omega⟩ = tapOf m c (tb t y) ⟨ts t y + j, by omega⟩ d := by
  have hv : (ts t y).val = (t.val * 512 + y.val) % 8192 := rfl
  have hv' : (ts t' y').val = (t'.val * 512 + y'.val) % 8192 := rfl
  have hw : (tb t y).val = (t.val * 512 + y.val) / 8192 := rfl
  have hw' : (tb t' y').val = (t'.val * 512 + y'.val) / 8192 := rfl
  have e1 : tb t' y' = tb t y := Fin.ext (by omega)
  have e2 : ts t' y' = ⟨ts t y + j - 3, by omega⟩ := Fin.ext (by simp only []; omega)
  unfold tapOf tap
  rw [dif_neg (by simp only []; omega), e1, e2]

/-- The kept rows after point `t`: the tile's own. -/
theorem kept (c : Dev nD) (t : Fin cfg0.N) (y : Fin 512) (d : Fin 1536) :
    (outsAt0 m c t.val t.isLt).2.2 (ix2 ⟨8 + y, by omega⟩ d) = rowOf m c (tb t y) (ts t y) ⟨512 + d, by omega⟩ := by
  by_cases h0 : t.val % 16 = 0
  · rw [outsAt0_A m c t h0 (not_not_intro h0)]
    dsimp only
    frame_open
    frame_out
    rw [pay7_eq]
    refine (stacked _ _ _ _).trans ?_
    rw [dif_neg (by simp only []; omega)]
    refine Eq.trans ?_ (tile_eq m c t y d)
    exact congrArg (tile m c t) (congrArg (fun z => (ix2 z d : S512x1536.Idx)) (Fin.ext (Nat.add_sub_cancel_left 8 y.val)))
  · rw [outsAt0_B m c t h0 h0]
    dsimp only
    frame_open
    frame_out
    rw [pay7_eq]
    refine (stacked _ _ _ _).trans ?_
    rw [dif_neg (by simp only []; omega)]
    refine Eq.trans ?_ (tile_eq m c t y d)
    exact congrArg (tile m c t) (congrArg (fun z => (ix2 z d : S512x1536.Idx)) (Fin.ext (Nat.add_sub_cancel_left 8 y.val)))

/-- A plain column of the packed row. -/
theorem plain (c : Dev nD) (t : Fin cfg0.N) (y : Fin 512) (j : Fin 6528) (h : ¬(3072 ≤ j.val ∧ j.val < 4608))
    (w : Fin 1024 → EReal) (hw : ∀ k, w k = iblk m c 2 t (ix2 k j)) :
    ∑ k : Fin 1024, k0_pay5 (F := Ideal) (iblk m c 0 t) (iblk m c 1 t) (ix2 y k) * w k
      = token (m ((c : Thread nD τ).loc main_arg0)) (m ((c : Thread nD τ).loc main_arg1)) (m ((c : Thread nD τ).loc main_arg2))
          (m ((c : Thread nD τ).loc main_arg3)) (m ((c : Thread nD τ).loc main_arg4)) (tb t y) (ts t y) j := by
  rw [product m c t y w j hw]
  unfold token
  rw [dif_neg h]

/-- The convolved rows of a tile, when the buffer holds the positions before and in it. -/
theorem convolve (c : Dev nD) (t : Fin cfg0.N) (E : FVec Ideal S520x1536 .f32) (y : Fin 512)
    (hE : ∀ (j : Fin 4) (d : Fin 1536), E (ix2 ⟨y + 5 + j, by omega⟩ d) = tapOf m c (tb t y) ⟨ts t y + j, by omega⟩ d) (d : Fin 1536) :
    k0_pay9 (F := Ideal) E (View.ld (iblk m c 4 t) (Rect.unit ![3, 0] ![1, 1536] inb_S4x1536_S1x1536_3_0))
        (View.ld (iblk m c 4 t) (Rect.unit ![0, 0] ![1, 1536] inb_S4x1536_S1x1536_0_0))
        (View.ld (iblk m c 4 t) (Rect.unit ![1, 0] ![1, 1536] inb_S4x1536_S1x1536_1_0))
        (View.ld (iblk m c 4 t) (Rect.unit ![2, 0] ![1, 1536] inb_S4x1536_S1x1536_2_0)) (ix2 y d)
      = convolved (m ((c : Thread nD τ).loc main_arg0)) (m ((c : Thread nD τ).loc main_arg1)) (m ((c : Thread nD τ).loc main_arg2))
          (m ((c : Thread nD τ).loc main_arg3)) (m ((c : Thread nD τ).loc main_arg4)) (tb t y) (ts t y) d := by
  rw [pay9_at]
  unfold convolved
  congr 1
  · exact funext fun j => hE j d
  · funext j
    fin_cases j <;>
    · refine Eq.trans ?_ ((rows m c t).2.2.2 _ d)
      pointwise

/-- The buffer before the convolution at a batch's first tile. -/
theorem buffer_first (c : Dev nD) (t : Fin cfg0.N) (h0 : t.val % 16 = 0) (y : Fin 512) (j : Fin 4) (d : Fin 1536) :
    View.canon (Val := Elt Ideal) (e := .f32) [⟨Rect.unit (s := S520x1536) ![8, 0] ![512, 1536] inb_S520x1536_S512x1536_8_0, k0_pay7 (F := Ideal) (tile m c t)⟩,
        ⟨Rect.unit (s := S520x1536) ![0, 0] ![8, 1536] inb_S520x1536_S8x1536_0_0, k0_pay3 (F := Ideal) (iblk m c 3 t)⟩] (ix2 ⟨y + 5 + j, by omega⟩ d)
      = tapOf m c (tb t y) ⟨ts t y + j, by omega⟩ d := by
  have hs : (ts t y).val = y.val := by unfold ts; simp only []; omega
  rw [pay7_eq, stacked]
  by_cases hp : y.val + 5 + j.val < 8
  · rw [dif_pos hp]
    unfold tapOf tap
    rw [dif_pos (by simp only [hs]; omega)]
    refine Eq.trans (b := iblk m c 3 t (ix3 0 ⟨y + 5 + j, hp⟩ d)) (pay3_at _ _ _) (((rows m c t).2.2.1 _ d).trans ?_)
    exact congrArg _ (congrArg (ix2 · d) (Fin.ext (by simp only [hs]; omega)))
  · rw [dif_neg hp]
    exact (tile_eq m c t ⟨y + 5 + j - 8, by omega⟩ d).trans (tap_row m c t t y ⟨y + 5 + j - 8, by omega⟩ j d (by simp only []; omega) (by omega))

/-- The buffer before the convolution at a later tile: its head is the previous tile's last rows. -/
theorem buffer_next (c : Dev nD) (t : Fin cfg0.N) (h0 : ¬t.val % 16 = 0) (top : FVec Ideal S8x1536 .f32)
    (ht : ∀ (i : Fin 8) (d : Fin 1536), top (ix2 i d)
      = (outsAt0 m c (t.val - 1) (lt_of_le_of_lt (Nat.sub_le _ _) t.isLt)).2.2 (ix2 ⟨512 + i, by omega⟩ d))
    (y : Fin 512) (j : Fin 4) (d : Fin 1536) :
    View.canon (Val := Elt Ideal) (e := .f32) [⟨Rect.unit (s := S520x1536) ![8, 0] ![512, 1536] inb_S520x1536_S512x1536_8_0, k0_pay7 (F := Ideal) (tile m c t)⟩,
        ⟨Rect.unit (s := S520x1536) ![0, 0] ![8, 1536] inb_S520x1536_S8x1536_0_0, top⟩] (ix2 ⟨y + 5 + j, by omega⟩ d)
      = tapOf m c (tb t y) ⟨ts t y + j, by omega⟩ d := by
  have hs : 512 ≤ (ts t y).val := by unfold ts; simp only []; omega
  rw [pay7_eq, stacked]
  by_cases hp : y.val + 5 + j.val < 8
  · rw [dif_pos hp, ht]
    refine Eq.trans ?_ ((kept m c ⟨t.val - 1, lt_of_le_of_lt (Nat.sub_le _ _) t.isLt⟩ ⟨504 + (y + 5 + j), by omega⟩ d).trans
      (tap_row m c t ⟨t.val - 1, lt_of_le_of_lt (Nat.sub_le _ _) t.isLt⟩ y ⟨504 + (y + 5 + j), by omega⟩ j d (by simp only []; omega) (by omega)))
    exact congrArg _ (congrArg (ix2 · d) (Fin.ext (by simp only []; omega)))
  · rw [dif_neg hp]
    exact (tile_eq m c t ⟨y + 5 + j - 8, by omega⟩ d).trans (tap_row m c t t y ⟨y + 5 + j - 8, by omega⟩ j d (by simp only []; omega) (by omega))

end Cert.InKernelIdeal.Tie

end
-- ==== Proof.InPure.lean ====
/- The stored tile of queries, keys and values: the heads of the convolved rows. -/
module

public import proofs.«01_k».proof.Proof.InPay

@[expose] public section

set_option maxRecDepth 16384

noncomputable section

open Idealize.ShloMosaic Idealize.ShloMosaic.TcCoe Idealize.SL.Sem

namespace Cert.InKernelIdeal.Pure

open Cert.InKernelIdeal Cert.InKernelIdeal.Gen Cert.Rows

/-- Equal heads have equal norms. -/
theorem unit_congr {v w : Fin 128 → EReal} {l k : Fin 128} (h : ∀ i, v i = w i) (e : l = k) : unit v l = unit w k := by
  subst e
  exact congrArg (unit · l) (funext h)

/-- A query head. -/
theorem heads_query (y : Fin 1536 → EReal) (g : Fin 12) (l : Fin 128) (h : g.val < 4) :
    heads y g l = unit (head y g) l * Ideal.ofBits .f32 0x3DB504F3#32 := if_pos h

/-- A key head. -/
theorem heads_key (y : Fin 1536 → EReal) (g : Fin 12) (l : Fin 128) (h : 4 ≤ g.val) (h' : g.val < 8) :
    heads y g l = unit (head y g) l := (if_neg (by omega)).trans (if_pos h')

/-- A value head. -/
theorem heads_value (y : Fin 1536 → EReal) (g : Fin 12) (l : Fin 128) (h : 8 ≤ g.val) :
    heads y g l = y ⟨g * 128 + l, by omega⟩ := (if_neg (by omega)).trans (if_neg (by omega))

set_option maxHeartbeats 4000000 in
/-- The stored columns, head by head. -/
theorem pay18_at (y : FVec Ideal S512x1536 .f32) (a0 a1 a2 a3 b0 b1 : FVec Ideal S512x128 .f32) (q : FVec Ideal S512x1 .f32)
    (r : Fin 512)
    (h0 : ∀ l : Fin 128, a0 (ix2 r l) = unit (fun l => y (ix2 r ⟨l, by omega⟩)) l * Ideal.ofBits .f32 0x3DB504F3#32)
    (h1 : ∀ l : Fin 128, a1 (ix2 r l) = unit (fun l => y (ix2 r ⟨128 + l, by omega⟩)) l * Ideal.ofBits .f32 0x3DB504F3#32)
    (h2 : ∀ l : Fin 128, a2 (ix2 r l) = unit (fun l => y (ix2 r ⟨256 + l, by omega⟩)) l * Ideal.ofBits .f32 0x3DB504F3#32)
    (h3 : ∀ l : Fin 128, a3 (ix2 r l) = unit (fun l => y (ix2 r ⟨384 + l, by omega⟩)) l * Ideal.ofBits .f32 0x3DB504F3#32)
    (h4 : ∀ l : Fin 128, b0 (ix2 r l) = unit (fun l => y (ix2 r ⟨512 + l, by omega⟩)) l)
    (h5 : ∀ l : Fin 128, b1 (ix2 r l) = y (ix2 r ⟨640 + l, by omega⟩))
    (h6 : q (ix2 r 0) = ∑ l : Fin 128, y (ix2 r ⟨640 + l, by omega⟩) * y (ix2 r ⟨640 + l, by omega⟩))
    (g : Fin 12) (l : Fin 128) :
    k0_pay18 (F := Ideal) y a0 a1 a2 a3 b0 b1 q (ix2 r ⟨g * 128 + l, by omega⟩) = heads (fun d => y (ix2 r d)) g l := by
  have hl := l.isLt
  have hy : ∀ u v : Fin 1536, u.val = v.val → y (ix2 r u) = y (ix2 r v) := fun u v h => congrArg (fun z => y (ix2 r z)) (Fin.ext h)
  pointwise [k0_pay18]
  rcases (show g.val = 0 ∨ g.val = 1 ∨ g.val = 2 ∨ g.val = 3 ∨ g.val = 4 ∨ g.val = 5 ∨ g.val = 6 ∨ g.val = 7 ∨ g.val = 8
      ∨ g.val = 9 ∨ g.val = 10 ∨ g.val = 11 by omega) with c | c | c | c | c | c | c | c | c | c | c | c
  all_goals
    repeat first
      | rewrite [dif_neg (by omega)]
      | rewrite [dif_pos (by omega)]
  · refine Eq.trans ?_ (heads_query _ g l (by omega)).symm
    exact (h0 _).trans (congrArg (· * _) (unit_congr (fun i => hy _ _ (by simp only []; omega)) (Fin.ext (by simp only []; omega))))
  · refine Eq.trans ?_ (heads_query _ g l (by omega)).symm
    exact (h1 _).trans (congrArg (· * _) (unit_congr (fun i => hy _ _ (by simp only []; omega)) (Fin.ext (by simp only []; omega))))
  · refine Eq.trans ?_ (heads_query _ g l (by omega)).symm
    exact (h2 _).trans (congrArg (· * _) (unit_congr (fun i => hy _ _ (by simp only []; omega)) (Fin.ext (by simp only []; omega))))
  · refine Eq.trans ?_ (heads_query _ g l (by omega)).symm
    exact (h3 _).trans (congrArg (· * _) (unit_congr (fun i => hy _ _ (by simp only []; omega)) (Fin.ext (by simp only []; omega))))
  · refine Eq.trans ?_ (heads_key _ g l (by omega) (by omega)).symm
    exact (h4 _).trans (unit_congr (fun i => hy _ _ (by simp only []; omega)) (Fin.ext (by simp only []; omega)))
  · rewrite [h5, h6]
    refine Eq.trans ?_ (heads_key _ g l (by omega) (by omega)).symm
    exact Eq.trans (b := unit (fun l => y (ix2 r ⟨640 + l, by omega⟩)) ⟨g * 128 + l - 640, by omega⟩)
      (congrArg (· * _) (hy _ _ (by simp only []; omega))) (unit_congr (fun i => hy _ _ (by simp only []; omega)) (Fin.ext (by simp only []; omega)))
  · refine Eq.trans ?_ (heads_key _ g l (by omega) (by omega)).symm
    exact Eq.trans (b := unit (fun l => y (ix2 r ⟨768 + l, by omega⟩)) ⟨g * 128 + l - 768, by omega⟩)
      (congrArg (· * _) (hy _ _ (by simp only []; omega))) (unit_congr (fun i => hy _ _ (by simp only []; omega)) (Fin.ext (by simp only []; omega)))
  · refine Eq.trans ?_ (heads_key _ g l (by omega) (by omega)).symm
    exact Eq.trans (b := unit (fun l => y (ix2 r ⟨896 + l, by omega⟩)) ⟨g * 128 + l - 896, by omega⟩)
      (congrArg (· * _) (hy _ _ (by simp only []; omega))) (unit_congr (fun i => hy _ _ (by simp only []; omega)) (Fin.ext (by simp only []; omega)))
  all_goals
    refine Eq.trans ?_ (heads_value _ g l (by omega)).symm
    exact hy _ _ (by simp only []; omega)

end Cert.InKernelIdeal.Pure

end
-- ==== Proof.InOut.lean ====
/- The in-projection kernel's stored blocks, in both kinds of grid point, and its two result arrays. -/
module

public import proofs.«01_k».proof.Proof.InValue
public import proofs.«01_k».proof.Proof.InPure

@[expose] public section

set_option maxRecDepth 16384

noncomputable section

open Idealize.ShloMosaic Idealize.ShloMosaic.TcCoe Idealize.SL.Sem
open Idealize.ShloMosaic.Pipeline (Dat)

namespace Cert.InKernelIdeal.Tie

open Cert.InKernelIdeal Cert.InKernelIdeal.Gen Cert.Rows Cert.InKernelIdeal.Pure
open Cert.InReferenceIdeal.Pure (row tap convolved token)

variable (m : (ℓ : Loc nD τ sig) → Buf (Elt Ideal) ℓ)

/-- Column `j` of a token, over the argument arrays. -/
abbrev tokenOf (c : Dev nD) : Fin 4 → Fin 8192 → Fin 6528 → EReal :=
  token (m ((c : Thread nD τ).loc main_arg0)) (m ((c : Thread nD τ).loc main_arg1)) (m ((c : Thread nD τ).loc main_arg2))
    (m ((c : Thread nD τ).loc main_arg3)) (m ((c : Thread nD τ).loc main_arg4))

/-- The convolved rows of a tile, from the buffer and the four taps' weights. -/
abbrev gated (c : Dev nD) (t : Fin cfg0.N) (E : FVec Ideal S520x1536 .f32) : FVec Ideal S512x1536 .f32 :=
  k0_pay9 (F := Ideal) E (View.ld (iblk m c 4 t) (Rect.unit ![3, 0] ![1, 1536] inb_S4x1536_S1x1536_3_0))
    (View.ld (iblk m c 4 t) (Rect.unit ![0, 0] ![1, 1536] inb_S4x1536_S1x1536_0_0))
    (View.ld (iblk m c 4 t) (Rect.unit ![1, 0] ![1, 1536] inb_S4x1536_S1x1536_1_0))
    (View.ld (iblk m c 4 t) (Rect.unit ![2, 0] ![1, 1536] inb_S4x1536_S1x1536_2_0))

set_option maxHeartbeats 1600000 in
/-- The stored queries, keys and values. -/
theorem heads_tile (c : Dev nD) (t : Fin cfg0.N) (E : FVec Ideal S520x1536 .f32) (y : Fin 512)
    (hE : ∀ (j : Fin 4) (d : Fin 1536), E (ix2 ⟨y + 5 + j, by omega⟩ d) = tapOf m c (tb t y) ⟨ts t y + j, by omega⟩ d)
    (x : Fin 1536) :
    k0_pay18 (F := Ideal) (gated m c t E)
        (k0_pay11 (k0_pay10 E (View.ld (iblk m c 4 t) (Rect.unit ![3, 0] ![1, 1536] inb_S4x1536_S1x1536_3_0))
          (View.ld (iblk m c 4 t) (Rect.unit ![0, 0] ![1, 1536] inb_S4x1536_S1x1536_0_0))
          (View.ld (iblk m c 4 t) (Rect.unit ![1, 0] ![1, 1536] inb_S4x1536_S1x1536_1_0))
          (View.ld (iblk m c 4 t) (Rect.unit ![2, 0] ![1, 1536] inb_S4x1536_S1x1536_2_0))) (Scalar.ofBits .f32 0x3DB504F3#32))
        (k0_pay12 (gated m c t E)) (k0_pay13 (gated m c t E)) (k0_pay14 (gated m c t E)) (k0_pay15 (gated m c t E))
        (k0_pay16 (gated m c t E)) (k0_pay17 (gated m c t E)) (ix2 y x)
      = tokenOf m c (tb t y) (ts t y) ⟨3072 + x, by omega⟩ := by
  have hx : x = ⟨x / 128 * 128 + x % 128, by omega⟩ := Fin.ext (by simp only []; omega)
  have hz : (fun d => gated m c t E (ix2 y d)) = convolved (m ((c : Thread nD τ).loc main_arg0)) (m ((c : Thread nD τ).loc main_arg1))
      (m ((c : Thread nD τ).loc main_arg2)) (m ((c : Thread nD τ).loc main_arg3)) (m ((c : Thread nD τ).loc main_arg4)) (tb t y) (ts t y) :=
    funext fun d => convolve m c t E y hE d
  refine (congrArg _ (congrArg (fun z => (ix2 y z : S512x1536.Idx)) hx)).trans
    ((pay18_at (gated m c t E) _ _ _ _ _ _ _ y (fun l => pay11_at _ _ _ _ _ _ y l) (fun l => pay12_at _ y l)
      (fun l => pay13_at _ y l) (fun l => pay14_at _ y l) (fun l => pay15_at _ y l) (fun l => pay16_at _ y l) (pay17_at _ y)
      ⟨x / 128, by omega⟩ ⟨x % 128, by omega⟩).trans ?_)
  unfold tokenOf token
  rw [hz, dif_pos ⟨by simp only []; omega, by simp only []; omega⟩]
  congr 1
  · exact Fin.ext (by simp only []; omega)
  · exact Fin.ext (by simp only []; omega)

/-- A position in a slab of the weights' columns. -/
theorem slab {n : ℕ} (off : ℕ) (hb : ∀ a, (![0, off] : Fin 2 → ℕ) a + (![1024, n] : Fin 2 → ℕ) a ≤ S1024x6528.size a)
    (k : Fin 1024) (x : Fin n) (j : Fin 6528) (h : j.val = off + x.val) :
    (Rect.unit (s := S1024x6528) ![0, off] ![1024, n] hb).idx (ix2 k x) = ix2 k j := by
  funext a
  fin_cases a
  · exact Fin.ext (show 0 + 1 * k.val = k.val by omega)
  · exact Fin.ext (show off + 1 * x.val = j.val by omega)

/-- A position in rows of the buffer. -/
theorem buffer_idx {n : ℕ} (off : ℕ) (hb : ∀ a, (![off, 0] : Fin 2 → ℕ) a + (![n, 1536] : Fin 2 → ℕ) a ≤ S520x1536.size a)
    (i : Fin n) (d : Fin 1536) (p : Fin 520) (h : p.val = off + i.val) :
    (Rect.unit (s := S520x1536) ![off, 0] ![n, 1536] hb).idx (ix2 i d) = ix2 p d := by
  funext a
  fin_cases a
  · exact Fin.ext (show off + 1 * i.val = p.val by omega)
  · exact Fin.ext (show 0 + 1 * d.val = d.val by omega)

set_option maxHeartbeats 4000000 in
/-- The stored block of packed rows. -/
theorem out_rows (c : Dev nD) (t : Fin cfg0.N) (y : Fin 512) (j : Fin 6528) :
    (outsAt0 m c t.val t.isLt).1 (ix2 y j) = tokenOf m c (tb t y) (ts t y) j := by
  by_cases ht : t.val % 16 = 0
  · rw [outsAt0_A m c t ht (not_not_intro ht)]
    dsimp only
    frame_open
    frame_out
    simp only [View.readCov_eq_canon']
    have hE := buffer_first m c t ht y
    canon_tiles x h using View.cover_of_tiledBy _ ![512, 384] (by sl_kernel_rfl) _
    all_goals
      idx_vars x
      obtain rfl : y = x0 := Fin.ext h0
    · exact (pay2_at _ _ _ _).trans (plain m c t y j (by omega) _ fun k => congrArg (iblk m c 2 t) (slab 6144 inb_S1024x6528_S1024x384_0_6144 k x1 j (by omega)))
    · exact (pay1_at _ _ _ _).trans (plain m c t y j (by omega) _ fun k => congrArg (iblk m c 2 t) (slab 4608 inb_S1024x6528_S1024x1536_0_4608 k x1 j (by omega)))
    · exact (pay20_at _ _ _ _).trans (plain m c t y j (by omega) _ fun k => congrArg (iblk m c 2 t) (slab 1536 inb_S1024x6528_S1024x1536_0_1536 k x1 j (by omega)))
    · exact (pay19_at _ _ _ _).trans (plain m c t y j (by omega) _ fun k => congrArg (iblk m c 2 t) (slab 0 inb_S1024x6528_S1024x1536_0_0 k x1 j (by omega)))
    · have hj : j = ⟨3072 + x1, by omega⟩ := Fin.ext h1
      rw [hj]
      refine heads_tile m c t _ y (fun i d => ?_) x1
      exact (congrArg _ (buffer_idx 0 inb_S520x1536_S520x1536_0_0 ⟨y + 5 + i, by omega⟩ d ⟨y + 5 + i, by omega⟩ (by simp only []; omega))).trans (hE i d)
  · rw [outsAt0_B m c t ht ht]
    dsimp only
    frame_open
    frame_out
    simp only [View.readCov_eq_canon']
    generalize hT : k0_pay4 _ = top
    have hE := buffer_next m c t ht top (fun i d => by
      rw [← hT, pay4_eq]
      exact (congrFun (Memref.IsWhole.read_unread _ _) ((Rect.unit (s := S520x1536) ![512, 0] ![8, 1536] inb_S520x1536_S8x1536_512_0).idx (ix2 i d))).trans
        (congrArg _ (buffer_idx 512 inb_S520x1536_S8x1536_512_0 i d ⟨512 + i, by omega⟩ rfl))) y
    canon_tiles x h using View.cover_of_tiledBy _ ![512, 384] (by sl_kernel_rfl) _
    all_goals
      idx_vars x
      obtain rfl : y = x0 := Fin.ext h0
    · exact (pay2_at _ _ _ _).trans (plain m c t y j (by omega) _ fun k => congrArg (iblk m c 2 t) (slab 6144 inb_S1024x6528_S1024x384_0_6144 k x1 j (by omega)))
    · exact (pay1_at _ _ _ _).trans (plain m c t y j (by omega) _ fun k => congrArg (iblk m c 2 t) (slab 4608 inb_S1024x6528_S1024x1536_0_4608 k x1 j (by omega)))
    · exact (pay20_at _ _ _ _).trans (plain m c t y j (by omega) _ fun k => congrArg (iblk m c 2 t) (slab 1536 inb_S1024x6528_S1024x1536_0_1536 k x1 j (by omega)))
    · exact (pay19_at _ _ _ _).trans (plain m c t y j (by omega) _ fun k => congrArg (iblk m c 2 t) (slab 0 inb_S1024x6528_S1024x1536_0_0 k x1 j (by omega)))
    · have hj : j = ⟨3072 + x1, by omega⟩ := Fin.ext h1
      rw [hj]
      refine heads_tile m c t _ y (fun i d => ?_) x1
      exact (congrArg _ (buffer_idx 0 inb_S520x1536_S520x1536_0_0 ⟨y + 5 + i, by omega⟩ d ⟨y + 5 + i, by omega⟩ (by simp only []; omega))).trans (hE i d)

/-- The stored last rows. -/
theorem out_tails (c : Dev nD) (t : Fin cfg0.N) (i : Fin 8) (d : Fin 1536) :
    (outsAt0 m c t.val t.isLt).2.1 (ix3 0 i d) = rowOf m c (tb t ⟨504 + i, by omega⟩) (ts t ⟨504 + i, by omega⟩) ⟨512 + d, by omega⟩ := by
  by_cases h0 : t.val % 16 = 0
  · rw [outsAt0_A m c t h0 (not_not_intro h0)]
    dsimp only
    frame_open
    frame_out
    exact (pay8_at _ i d).trans (tile_eq m c t ⟨504 + i, by omega⟩ d)
  · rw [outsAt0_B m c t h0 h0]
    dsimp only
    frame_open
    frame_out
    exact (pay8_at _ i d).trans (tile_eq m c t ⟨504 + i, by omega⟩ d)

end Cert.InKernelIdeal.Tie

end
-- ==== Proof.InFinal.lean ====
/- The in-projection kernel's two result arrays, entry by entry. -/
module

public import proofs.«01_k».proof.Proof.InOut
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InKernelIdeal.Tie

open Cert.InKernelIdeal Cert.InKernelIdeal.Gen Cert.Rows Cert.InKernelIdeal.Pure
open Cert.InReferenceIdeal.Pure (row token)

variable (m : (ℓ : Loc nD τ sig) → Buf (Elt Ideal) ℓ)

/-- The packed rows. -/
def rowsOut (c : Dev nD) : FVec Ideal S32768x6528 .bf16 := fun i =>
  tokenOf m c ⟨(i 0 : ℕ) / 8192, by have : (i 0 : ℕ) < 32768 := (i 0).isLt; omega⟩ ⟨(i 0 : ℕ) % 8192, by omega⟩ (i 1)

/-- The last eight rows of every tile. -/
def tailsOut (c : Dev nD) : FVec Ideal S64x8x1536 .f32 := fun i =>
  rowOf m c ⟨(i 0 : ℕ) / 16, by have : (i 0 : ℕ) < 64 := (i 0).isLt; omega⟩
    ⟨(i 0 : ℕ) % 16 * 512 + (504 + (i 1 : ℕ)), by have : (i 1 : ℕ) < 8 := (i 1).isLt; omega⟩
    ⟨512 + (i 2 : ℕ), by have : (i 2 : ℕ) < 1536 := (i 2).isLt; omega⟩

set_option maxHeartbeats 1600000 in
/-- The kernel's first result array. -/
theorem rows_final (c : Dev nD) : (dats m 0 c).arrAt 5 cfg0.N = rowsOut m c := by
  refine (dats m 0 c).arrAt_eq_of_covers 5 _ (by decide +kernel) fun t hf y => ?_
  blk_simp
  rw [after0_5]
  idx_vars y
  refine (out_rows m c t y0 y1).trans ?_
  have e : (((View.whole main_v21_0).slice (win0_5.rect t)).emb (ix2 y0 y1))
      = ix2 ⟨t.val * 512 + y0, by have := lt64 t; omega⟩ y1 := by
    blk_ext [idx t]
  refine Eq.trans ?_ (congrArg (rowsOut m c) e).symm
  rfl

set_option maxHeartbeats 1600000 in
/-- The kernel's second result array. -/
theorem tails_final (c : Dev nD) : (dats m 0 c).arrAt 6 cfg0.N = tailsOut m c := by
  refine (dats m 0 c).arrAt_eq_of_covers 6 _ (by decide +kernel) fun t hf y => ?_
  blk_simp
  rw [after0_6]
  idx_vars y
  obtain rfl : y0 = 0 := Fin.ext (by omega)
  refine (out_tails m c t y1 y2).trans ?_
  have e : (((View.whole main_v21_1).slice (win0_6.rect t)).emb (ix3 0 y1 y2))
      = ix3 ⟨t.val, lt64 t⟩ y1 y2 := by
    blk_ext [idx t]
  refine Eq.trans ?_ (congrArg (tailsOut m c) e).symm
  have h := lt64 t
  have e0 : tb t ⟨504 + y1, by omega⟩ = ⟨t.val / 16, by omega⟩ := Fin.ext (show (t.val * 512 + (504 + y1.val)) / 8192 = t.val / 16 by omega)
  have e1 : ts t ⟨504 + y1, by omega⟩ = ⟨t.val % 16 * 512 + (504 + y1), by omega⟩ :=
    Fin.ext (show (t.val * 512 + (504 + y1.val)) % 8192 = t.val % 16 * 512 + (504 + y1.val) by omega)
  rw [e0, e1]
  rfl

end Cert.InKernelIdeal.Tie

end
-- ==== Proof.InClaim.lean ====
/- The in-projection claim: kernel and reference leave the same packed rows and the same last rows of every tile. -/
module

public import proofs.«01_k».proof.Defs
public import proofs.«01_k».proof.Proof.InFinal

@[expose] public section

set_option maxRecDepth 16384

noncomputable section

open Idealize.ShloMosaic Idealize.ShloMosaic.TcCoe Idealize.SL.Sem

namespace Cert.InTie

open Cert.InReferenceIdeal Cert.InReferenceIdeal.Pure

/-- The reference's packed rows, one entry at a time. -/
theorem packed_entry (x : FVec Ideal S4x8192x1024 .f32) (n : FVec Ideal S1024 .f32) (w : FVec Ideal S1024x6408 .f32)
    (q : FVec Ideal S16x1536 .f32) (c : FVec Ideal S4x1536 .f32) (i : S32768x6528.Idx) :
    packed x n w q c i = token x n w q c ⟨(i 0 : ℕ) / 8192, by have : (i 0 : ℕ) < 32768 := (i 0).isLt; omega⟩
      ⟨(i 0 : ℕ) % 8192, by omega⟩ (i 1) := by
  idx_vars i
  refine Eq.trans ?_ (packed_at x n w q c ⟨i0 / 8192, by omega⟩ ⟨i0 % 8192, by omega⟩ i1)
  exact congrArg (packed x n w q c) (congrArg (ix2 · i1) (Fin.ext (show i0.val = i0.val / 8192 * 8192 + i0.val % 8192 by omega)))

/-- The reference's last rows, one entry at a time. -/
theorem tails_entry (x : FVec Ideal S4x8192x1024 .f32) (n : FVec Ideal S1024 .f32) (w : FVec Ideal S1024x6408 .f32) (i : S64x8x1536.Idx) :
    refTails (refU (refH x n w)) i
      = row x n w ⟨(i 0 : ℕ) / 16, by have : (i 0 : ℕ) < 64 := (i 0).isLt; omega⟩
        ⟨(i 0 : ℕ) % 16 * 512 + (504 + (i 1 : ℕ)), by have : (i 1 : ℕ) < 8 := (i 1).isLt; omega⟩
        ⟨512 + (i 2 : ℕ), by have : (i 2 : ℕ) < 1536 := (i 2).isLt; omega⟩ := by
  idx_vars i
  rw [refTails_at, refU_at, refH_at]
  rfl

/-- A packed row depends on the arrays only. -/
theorem token_congr {x x' : FVec Ideal S4x8192x1024 .f32} {n n' : FVec Ideal S1024 .f32} {w w' : FVec Ideal S1024x6408 .f32}
    {q q' : FVec Ideal S16x1536 .f32} {c c' : FVec Ideal S4x1536 .f32}
    (h0 : x = x') (h1 : n = n') (h2 : w = w') (h3 : q = q') (h4 : c = c') (b : Fin 4) (s : Fin 8192) (j : Fin 6528) :
    token x n w q c b s j = token x' n' w' q' c' b s j := by
  subst h0 h1 h2 h3 h4
  rfl

/-- So does a projected row. -/
theorem row_congr {x x' : FVec Ideal S4x8192x1024 .f32} {n n' : FVec Ideal S1024 .f32} {w w' : FVec Ideal S1024x6408 .f32}
    (h0 : x = x') (h1 : n = n') (h2 : w = w') (b : Fin 4) (s : Fin 8192) (l : Fin 6408) : row x n w b s l = row x' n' w' b s l := by
  subst h0 h1 h2
  rfl

set_option maxHeartbeats 2000000 in
/-- Kernel and reference agree. -/
theorem algebraic : Cert.algebraic_InKernelIdeal_InReferenceIdeal := by
  pair_intro
  · run_from Cert.InKernelIdeal.Gen.run_main m g
  · run_from Cert.InReferenceIdeal.Value.run m' g'
    · refine Eq.trans (b := packed (m' ((c.tc : Thread _ _).loc main_arg0)) (m' ((c.tc : Thread _ _).loc main_arg1))
        (m' ((c.tc : Thread _ _).loc main_arg2)) (m' ((c.tc : Thread _ _).loc main_arg3)) (m' ((c.tc : Thread _ _).loc main_arg4))) rfl
        ((funext fun i => packed_entry _ _ _ _ _ i).trans (Eq.trans ?_ (Cert.InKernelIdeal.Tie.rows_final m c).symm))
      obtain ⟨h0, h1, h2, h3, h4⟩ := hagree c
      exact funext fun i => token_congr h0 h1 h2 h3 h4 _ _ _
    · refine Eq.trans (b := refTails (refU (refH (m' ((c.tc : Thread _ _).loc main_arg0)) (m' ((c.tc : Thread _ _).loc main_arg1))
        (m' ((c.tc : Thread _ _).loc main_arg2))))) rfl
        ((funext fun i => tails_entry _ _ _ i).trans (Eq.trans ?_ (Cert.InKernelIdeal.Tie.tails_final m c).symm))
      obtain ⟨h0, h1, h2, h3, h4⟩ := hagree c
      exact funext fun i => row_congr h0 h1 h2 _ _ _

end Cert.InTie

end
-- ==== Proof.PoolRows.lean ====
/-
The causal pooling's arithmetic, free of either program: a column's history (sixteen rows from before the sequence, then the
sequence's own rows), the sum of its last few rows, the kernel's doubling of such sums by rotation, and the difference of two
running sums as the sum of the rows between them.
-/
module
public import proofs.«01_k».proof.Proof.Rows

@[expose] public section

set_option maxRecDepth 16384

noncomputable section

namespace Cert.Pool

open Idealize.ShloMosaic

/-- A column's history: sixteen earlier rows, then the sequence's rows. -/
def history (before : Fin 16 → EReal) (u : Fin 8192 → EReal) (q : ℕ) : EReal :=
  if h : q < 16 then before ⟨q, h⟩ else if h' : q - 16 < 8192 then u ⟨q - 16, h'⟩ else 0

/-- The sum of the `w` rows ending at row `p`. -/
def back (w : ℕ) (y : ℕ → EReal) (p : ℕ) : EReal := ∑ i ∈ Finset.range w, y (p - i)

/-- Row `r` added to the row `k` above it, the rows turning round. -/
def fold (k : ℕ) (x : Fin 528 → EReal) (r : Fin 528) : EReal := x r + x ⟨(r.val + 528 - k) % 528, Nat.mod_lt _ (by norm_num)⟩

theorem back_one (y : ℕ → EReal) (p : ℕ) : back 1 y p = y p := by simp [back]

theorem back_double (k : ℕ) (y : ℕ → EReal) (p : ℕ) : back k y p + back k y (p - k) = back (k + k) y p := by
  rw [back, back, back, Finset.sum_range_add]
  simp only [Nat.sub_sub]

/-- Adding the row `k` above to sums of `k` rows gives sums of `2k` rows, away from the top. -/
theorem fold_back (k lo : ℕ) (x : Fin 528 → EReal) (y : ℕ → EReal) (hk : 0 < k) (h : ∀ r : Fin 528, lo ≤ r.val → x r = back k y r.val)
    (r : Fin 528) (hr : lo + k ≤ r.val) : fold k x r = back (k + k) y r.val := by
  have e : (r.val + 528 - k) % 528 = r.val - k := by omega
  rw [fold, h r (by omega), h _ (by show lo ≤ (r.val + 528 - k) % 528; omega)]
  show back k y r.val + back k y ((r.val + 528 - k) % 528) = _
  rw [e, back_double]

theorem folded1 (x : Fin 528 → EReal) (y : ℕ → EReal) (h : ∀ r : Fin 528, x r = y r.val) (r : Fin 528) (hr : 2 ≤ r.val) :
    fold 1 x r = back 2 y r.val :=
  fold_back 1 1 x y (by norm_num) (fun r _ => (h r).trans (back_one y _).symm) r (by omega)

theorem folded2 (x : Fin 528 → EReal) (y : ℕ → EReal) (h : ∀ r : Fin 528, x r = y r.val) (r : Fin 528) (hr : 4 ≤ r.val) :
    fold 2 (fold 1 x) r = back 4 y r.val :=
  fold_back 2 2 _ y (by norm_num) (folded1 x y h) r (by omega)

theorem folded4 (x : Fin 528 → EReal) (y : ℕ → EReal) (h : ∀ r : Fin 528, x r = y r.val) (r : Fin 528) (hr : 8 ≤ r.val) :
    fold 4 (fold 2 (fold 1 x)) r = back 8 y r.val :=
  fold_back 4 4 _ y (by norm_num) (folded2 x y h) r (by omega)

theorem folded8 (x : Fin 528 → EReal) (y : ℕ → EReal) (h : ∀ r : Fin 528, x r = y r.val) (r : Fin 528) (hr : 16 ≤ r.val) :
    fold 8 (fold 4 (fold 2 (fold 1 x))) r = back 16 y r.val :=
  fold_back 8 8 _ y (by norm_num) (folded4 x y h) r (by omega)

/-- Sums over rows counted from `s`. -/
theorem back_shift (w : ℕ) (y : ℕ → EReal) (s p : ℕ) (hw : w ≤ p + 1) : back w (fun j => y (s + j)) p = back w y (s + p) := by
  refine Finset.sum_congr rfl fun i hi => ?_
  have := Finset.mem_range.mp hi
  show y (s + (p - i)) = y (s + p - i)
  congr 1; omega

theorem back_congr (w : ℕ) (y z : ℕ → EReal) (p : ℕ) (hw : w ≤ p) (h : ∀ q, 1 ≤ q → y q = z q) : back w y p = back w z p := by
  refine Finset.sum_congr rfl fun i hi => h _ ?_
  have := Finset.mem_range.mp hi
  omega

/-- A sum of reals among the extended reals is a real. -/
theorem sum_real (y : ℕ → EReal) (hy : ∀ q, ∃ a : ℝ, y q = (a : EReal)) (n : ℕ) : ∃ a : ℝ, ∑ q ∈ Finset.range n, y q = (a : EReal) := by
  induction n with
  | zero => exact ⟨0, by simp⟩
  | succ n ih =>
    obtain ⟨a, ha⟩ := ih
    obtain ⟨b, hb⟩ := hy n
    exact ⟨a + b, by rw [Finset.sum_range_succ, ha, hb, EReal.coe_add]⟩

/-- A difference of running sums of reals is the sum of the rows between them. -/
theorem running_sub (y : ℕ → EReal) (hy : ∀ q, ∃ a : ℝ, y q = (a : EReal)) (w p : ℕ) (hw : w ≤ p + 1) :
    (∑ q ∈ Finset.range (p + 1), y q) - (∑ q ∈ Finset.range (p + 1 - w), y q) = back w y p := by
  obtain ⟨a, ha⟩ := sum_real y hy (p + 1 - w)
  have hb : back w y p = ∑ i ∈ Finset.range w, y (p + 1 - w + i) := by
    rw [back, ← Finset.sum_range_reflect]
    refine Finset.sum_congr rfl fun i hi => ?_
    have := Finset.mem_range.mp hi
    congr 1; omega
  obtain ⟨b, hb'⟩ : ∃ b : ℝ, back w y p = (b : EReal) := by
    rw [hb]; exact sum_real (fun i => y (p + 1 - w + i)) (fun q => hy _) w
  have e : ∑ q ∈ Finset.range (p + 1), y q = (∑ q ∈ Finset.range (p + 1 - w), y q) + back w y p := by
    rw [hb, ← Finset.sum_range_add, Nat.sub_add_cancel hw]
  rw [e, ha, hb', ← EReal.coe_add, ← EReal.coe_sub]
  congr 1; ring

/-- A number of rows as a float. -/
def count (w : ℕ) : EReal := FloatOps.sitofp (F := Ideal) .f32 (BitVec.ofNat 32 w)

/-- One output entry: the group's pooled rows less the rows themselves, mixed by a column of weights and scaled. -/
def mixed (w : ℕ) (e : Fin 128 → ℕ → EReal) (p : ℕ) (wt : Fin 128 → EReal) (sc : EReal) : EReal :=
  (∑ c, (Ideal.div (back w (e c) p) (count w) - e c p) * wt c) * sc

/-- Far enough from the start the window is never cut short. -/
theorem min_pos (w q : ℕ) (hw : w ≤ q) (hq : q < 2 ^ 31) : IntOp.minsi (BitVec.ofNat 32 w) (BitVec.ofNat 32 q) = BitVec.ofNat 32 w := by
  have h1 : (BitVec.ofNat 32 w).toInt = w := by
    rw [BitVec.toInt_ofNat', Int.bmod_def]; omega
  have h2 : (BitVec.ofNat 32 q).toInt = q := by
    rw [BitVec.toInt_ofNat', Int.bmod_def]; omega
  unfold IntOp.minsi
  split
  · rfl
  · rename_i hn
    have : q = w := by
      rw [BitVec.slt_iff_toInt_lt, h1, h2] at hn
      omega
    rw [this]

/-- A pooled column of one sequence: the sixteen rows of the memory, then the sequence's rows. -/
def hist (h : FVec Ideal ⟨3, ![4, 8192, 6408]⟩ .f32) (mu : FVec Ideal ⟨2, ![16, 512]⟩ .f32) (b : Fin 4) (d : Fin 512) : ℕ → EReal :=
  history (fun i => mu (ix2 i d)) (fun p => h (ix3 b p ⟨d.val, by omega⟩))

/-- The pooling's output at one token and one column. -/
def pooled (h : FVec Ideal ⟨3, ![4, 8192, 6408]⟩ .f32) (mu : FVec Ideal ⟨2, ![16, 512]⟩ .f32) (pw : FVec Ideal ⟨3, ![4, 128, 128]⟩ .f32)
    (ps : FVec Ideal ⟨1, ![512]⟩ .f32) (b : Fin 4) (p : Fin 8192) (d : Fin 512) : EReal :=
  mixed (2 ^ (d.val / 128 + 1)) (fun c => hist h mu b ⟨d.val / 128 * 128 + c.val, by omega⟩) (p.val + 16)
    (fun c => pw (ix3 ⟨d.val / 128, by omega⟩ c ⟨d.val % 128, by omega⟩)) (ps (ix1 d))

theorem pooled_of (h : FVec Ideal ⟨3, ![4, 8192, 6408]⟩ .f32) (mu : FVec Ideal ⟨2, ![16, 512]⟩ .f32) (pw : FVec Ideal ⟨3, ![4, 128, 128]⟩ .f32)
    (ps : FVec Ideal ⟨1, ![512]⟩ .f32) (b : Fin 4) (p : Fin 8192) (d : Fin 512) (g : Fin 4) (l : Fin 128) (hd : d.val = g.val * 128 + l.val)
    (w : ℕ) (hw : w = 2 ^ (g.val + 1)) (e : Fin 128 → ℕ → EReal) (he : ∀ c : Fin 128, e c = hist h mu b ⟨g.val * 128 + c.val, by omega⟩)
    (q : ℕ) (hq : q = p.val + 16) (wt : Fin 128 → EReal) (hwt : ∀ c, wt c = pw (ix3 g c l)) (sc : EReal) (hsc : sc = ps (ix1 d)) :
    mixed w e q wt sc = pooled h mu pw ps b p d := by
  obtain rfl : e = _ := funext he
  obtain rfl : wt = _ := funext hwt
  subst hw hq hsc
  have h1 : d.val / 128 = g.val := by omega
  have h2 : (⟨d.val / 128, by omega⟩ : Fin 4) = g := Fin.ext h1
  have h3 : (⟨d.val % 128, by omega⟩ : Fin 128) = l := Fin.ext (show d.val % 128 = l.val by omega)
  unfold pooled
  rw [h2, h3]
  simp only [h1]

end Cert.Pool

end
-- ==== Proof.PoolBlocks.lean ====
/-
What the pooling kernel's windows hold at each grid point, in terms of the argument arrays.
-/
module
public import proofs.«01_k».proof.Proof.Gen.PoolKernelIdeal.Value
public import proofs.«01_k».proof.Proof.PoolRows
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolTie

open Cert.PoolKernelIdeal Cert.PoolKernelIdeal.Gen Cert.Pool

variable (m : (ℓ : Loc nD τ sig) → Buf (Elt Ideal) ℓ)

/-- Where each window's block sits at grid point `t`. -/
theorem idx : ∀ t : Fin cfg0.N, win0_0.index t = ![t.val / 16, t.val % 16, 9] ∧ win0_1.index t = ![t.val / 16, 0, 0]
    ∧ win0_2.index t = ![0, 0, 0] ∧ win0_3.index t = ![0, 0] ∧ win0_4.index t = ![t.val / 16, t.val % 16, 0] ∧ t.val < 64 :=
  (by decide +kernel : ∀ t : Fin grid0.N, _)

/-- The grid has 64 points. -/
theorem lt64 (t : Fin cfg0.N) : t.val < 64 := (idx t).2.2.2.2.2

/-- The sequence of grid point `t`. -/
def tb (t : Fin cfg0.N) : Fin 4 := ⟨t.val / 16, by have := lt64 t; omega⟩

/-- The position of the tile's row `y` in its sequence. -/
def ts (t : Fin cfg0.N) (y : Fin 512) : Fin 8192 := ⟨t.val % 16 * 512 + y.val, by omega⟩

/-- The packed projection, its columns in the kernels' order, padded by zeros. -/
def pack (h : FVec Ideal S4x8192x6408 .f32) : FVec Ideal S4x8192x6528 .bf16 :=
  concatenate S4x8192x6528 2
    [⟨S4x8192x3072, truncf .bf16 ((extractStridedSlice S4x8192x3072 ![0, 0, 3336] · slices_S4x8192x6408_S4x8192x3072_0_0_3336) h) bitsLt_bf16_f32⟩,
     ⟨S4x8192x1536, truncf .bf16 ((extractStridedSlice S4x8192x1536 ![0, 0, 512] · slices_S4x8192x6408_S4x8192x1536_0_0_512) h) bitsLt_bf16_f32⟩,
     ⟨S4x8192x512, truncf .bf16 ((extractStridedSlice S4x8192x512 ![0, 0, 0] · slices_S4x8192x6408_S4x8192x512_0_0_0) h) bitsLt_bf16_f32⟩,
     ⟨S4x8192x512, truncf .bf16 ((extractStridedSlice S4x8192x512 ![0, 0, 2048] · slices_S4x8192x6408_S4x8192x512_0_0_2048) h) bitsLt_bf16_f32⟩,
     ⟨S4x8192x512, truncf .bf16 ((extractStridedSlice S4x8192x512 ![0, 0, 2568] · slices_S4x8192x6408_S4x8192x512_0_0_2568) h) bitsLt_bf16_f32⟩,
     ⟨S4x8192x256, truncf .bf16 ((extractStridedSlice S4x8192x256 ![0, 0, 3080] · slices_S4x8192x6408_S4x8192x256_0_0_3080) h) bitsLt_bf16_f32⟩,
     ⟨S4x8192x8, truncf .bf16 ((extractStridedSlice S4x8192x8 ![0, 0, 2560] · slices_S4x8192x6408_S4x8192x8_0_0_2560) h) bitsLt_bf16_f32⟩,
     ⟨S4x8192x120, broadcastInDim S4x8192x120 ![] bcast_S_S4x8192x120 (constant S_ .bf16 0x0000#16)⟩]
    concatenates_S4x8192x3072_S4x8192x1536_S4x8192x512_S4x8192x512_S4x8192x512_S4x8192x256_S4x8192x8_S4x8192x120_S4x8192x6528_d2

/-- The packed rows the kernel is given. -/
theorem v17 (c : Dev nD) :
    (show FVec Ideal S4x8192x6528 .bf16 from V m c main_v17) = pack (m ((c : Thread nD τ).loc main_arg0)) := by
  rfl

set_option maxHeartbeats 1600000 in
/-- The pooled columns in the packed array. -/
theorem pack_pool (h : FVec Ideal S4x8192x6408 .f32) (b : Fin 4) (s : Fin 8192) (d : Fin 512) :
    pack h (ix3 b s ⟨4608 + d, by omega⟩) = h (ix3 b s ⟨d, by omega⟩) := by
  unfold pack
  pointwise
  rw [dif_neg (by omega), dif_neg (by omega), dif_pos (by omega)]
  exact congrArg h (congrArg (ix3 b s) (Fin.ext (by first | omega | (simp only []; omega))))

/-- The tile's rows. -/
theorem rows (c : Dev nD) (t : Fin cfg0.N) (y : Fin 512) (d : Fin 512) :
    X0_0 m c t (ix3 0 y d) = m ((c : Thread nD τ).loc main_arg0) (ix3 (tb t) (ts t y) ⟨d, by omega⟩) := by
  unfold X0_0 Pipeline.Window.fill
  rw [dif_pos (moved0_0 t _)]
  unfold Gen.iblk
  refine Eq.trans (congrArg (V m c main_v17) ?_) ((congrFun (v17 m c) (ix3 (tb t) (ts t y) ⟨4608 + d, by omega⟩)).trans (pack_pool _ _ _ d))
  unfold tb ts
  blk_ext [idx t]

set_option maxHeartbeats 1600000 in
/-- The memory's rows, the weights and the scale. -/
theorem params (c : Dev nD) (t : Fin cfg0.N) :
    (∀ (i : Fin 16) (d : Fin 512), iblk m c 1 t (ix3 0 i d) = m ((c : Thread nD τ).loc main_arg1) (ix2 i d))
    ∧ (∀ (g : Fin 4) (k l : Fin 128), iblk m c 2 t (ix3 g k l) = m ((c : Thread nD τ).loc main_arg2) (ix3 g k l))
    ∧ (∀ d : Fin 512, iblk m c 3 t (ix2 0 d) = m ((c : Thread nD τ).loc main_arg3) (ix1 d)) := by
  refine ⟨fun i d => ?_, fun g k l => ?_, fun d => ?_⟩ <;>
  · blk_simp [iblk]
    entry_read
    pointwise
    blk_ext [idx t]

end Cert.PoolTie

end
-- ==== Proof.PoolPay.lean ====
/-
What the pooling kernel's stores hold, entry by entry.
-/
module
public import proofs.«01_k».proof.Proof.Gen.PoolKernelIdeal.Skeleton
public import proofs.«01_k».proof.Proof.PoolRows

@[expose] public section

set_option maxRecDepth 16384

noncomputable section

namespace Cert.PoolTie

open Idealize.ShloMosaic Idealize.ShloMosaic.TcCoe Idealize.SL.Sem
open Cert.PoolKernelIdeal Cert.PoolKernelIdeal.Gen Cert.Pool

theorem pay4_at (v : Vec Ideal S1x512x512 .bf16) (r : Fin 512) (d : Fin 512) : k0_pay4 (F := Ideal) v (ix3 0 r d) = v (ix3 0 r d) := by
  pointwise [k0_pay4]

theorem pay2_at (v : Vec Ideal S1x16x512 .f32) (r : Fin 16) (d : Fin 512) : k0_pay2 (F := Ideal) v (ix3 0 r d) = v (ix3 0 r d) := by
  pointwise [k0_pay2]

theorem pay3_at (v : Vec Ideal S1x16x512 .f32) (r : Fin 16) (d : Fin 512) : k0_pay3 (F := Ideal) v (ix3 0 r d) = v (ix3 0 r d) := by
  pointwise [k0_pay3]

/-- The pooled rows of the first group less the rows. -/
theorem pay6_at (i : grid0.Coords) (x : Vec Ideal S1x528x128 .f32) (r : Fin 512) (c : Fin 128) :
    k0_pay6 (F := Ideal) i x (ix2 r c)
      = Ideal.div (fold 1 (fun j => x (ix3 0 j c)) ⟨16 + r.val, by omega⟩)
          (FloatOps.sitofp (F := Ideal) .f32 (IntOp.minsi 2#32 (IntOp.addi (k0_pay5 i (ix3 0 r 0)) 1#32))) - x (ix3 0 ⟨16 + r.val, by omega⟩ c) := by
  generalize hp : k0_pay5 i = p
  pointwise [k0_pay6]
  rw [hp]
  rfl

theorem pay7_at (v : Vec Ideal S1x128x128 .bf16) (c l : Fin 128) : k0_pay7 (F := Ideal) v (ix2 c l) = v (ix3 0 c l) := by
  pointwise [k0_pay7]

theorem pay8_at (d : Vec Ideal S512x128 .bf16) (wt : Vec Ideal S128x128 .bf16) (sc : Vec Ideal S1x128 .f32) (r : Fin 512) (l : Fin 128) :
    k0_pay8 (F := Ideal) d wt sc (ix3 0 r l) = (∑ c, d (ix2 r c) * wt (ix2 c l)) * sc (ix2 0 l) := by
  pointwise [k0_pay8]

theorem pay12_at (x : Vec Ideal S1x528x128 .f32) (r : Fin 528) (l : Fin 128) :
    k0_pay12 (F := Ideal) x (ix3 0 r l) = fold 4 (fold 2 (fold 1 (fun j => x (ix3 0 j l)))) r := by
  pointwise [k0_pay12]
  rfl

theorem pay11_at (x : Vec Ideal S1x528x128 .f32) (r : Fin 512) (l : Fin 128) :
    k0_pay11 (F := Ideal) x (ix3 0 r l) = x (ix3 0 ⟨16 + r.val, by omega⟩ l) := by
  pointwise [k0_pay11]

theorem pay9_at (p : IVec S1x512x1 32) (x : Vec Ideal S1x528x128 .f32) (wt : Vec Ideal S1x128x128 .bf16) (sc : Vec Ideal S1x128 .f32)
    (r : Fin 512) (l : Fin 128) :
    k0_pay9 (F := Ideal) p x wt sc (ix3 0 r l)
      = (∑ c, (Ideal.div ((fold 2 (fold 1 (fun j => x (ix3 0 j c)))) ⟨16 + r.val, by omega⟩)
          (FloatOps.sitofp (F := Ideal) .f32 (IntOp.minsi 4#32 (IntOp.addi (p (ix3 0 r 0)) 1#32))) - x (ix3 0 ⟨16 + r.val, by omega⟩ c)) * wt (ix3 0 c l))
        * sc (ix2 0 l) := by
  pointwise [k0_pay9]
  rfl

theorem pay10_at (p : IVec S1x512x1 32) (x : Vec Ideal S1x528x128 .f32) (wt : Vec Ideal S1x128x128 .bf16) (sc : Vec Ideal S1x128 .f32)
    (r : Fin 512) (l : Fin 128) :
    k0_pay10 (F := Ideal) p x wt sc (ix3 0 r l)
      = (∑ c, (Ideal.div ((fold 4 (fold 2 (fold 1 (fun j => x (ix3 0 j c))))) ⟨16 + r.val, by omega⟩)
          (FloatOps.sitofp (F := Ideal) .f32 (IntOp.minsi 8#32 (IntOp.addi (p (ix3 0 r 0)) 1#32))) - x (ix3 0 ⟨16 + r.val, by omega⟩ c)) * wt (ix3 0 c l))
        * sc (ix2 0 l) := by
  pointwise [k0_pay10]
  rfl

theorem pay1_at (p : IVec S1x512x1 32) (u : Vec Ideal S1x512x128 .f32) (x : Vec Ideal S1x528x128 .f32) (wt : Vec Ideal S1x128x128 .bf16)
    (sc : Vec Ideal S1x128 .f32) (r : Fin 512) (l : Fin 128) :
    k0_pay1 (F := Ideal) p u x wt sc (ix3 0 r l)
      = (∑ c, (Ideal.div (fold 8 (fun j => x (ix3 0 j c)) ⟨16 + r.val, by omega⟩)
          (FloatOps.sitofp (F := Ideal) .f32 (IntOp.minsi 16#32 (IntOp.addi (p (ix3 0 r 0)) 1#32))) - u (ix3 0 r c)) * wt (ix3 0 c l))
        * sc (ix2 0 l) := by
  pointwise [k0_pay1]
  rfl

/-- The rows' count: the windows are full everywhere. -/
theorem count_at (w : ℕ) (hw : w ≤ 16) (i : grid0.Coords) (hi : (i 1).val < 16) (r : Fin 512) :
    IntOp.minsi (BitVec.ofNat 32 w) (IntOp.addi (k0_pay5 i (ix3 0 r 0)) 1#32) = BitVec.ofNat 32 w := by
  have e : IntOp.addi (k0_pay5 i (ix3 0 r 0)) 1#32 = BitVec.ofNat 32 (16 + (i 1).val * 512 + r.val + 1) := by
    pointwise [k0_pay5]
    show (16#32 + BitVec.ofNat 32 (i 1).val * 512#32) + BitVec.ofNat 32 r.val + 1#32 = _
    apply BitVec.eq_of_toNat_eq
    simp only [BitVec.toNat_add, BitVec.toNat_mul, BitVec.toNat_ofNat]
    omega
  rw [e]
  exact min_pos w _ (by omega) (by omega)

section Groups

variable (i : grid0.Coords) (hi : (i 1).val < 16) (x : Vec Ideal S1x528x128 .f32) (wt : Vec Ideal S1x128x128 .bf16)
  (sc : Vec Ideal S1x128 .f32) (e : Fin 128 → ℕ → EReal) (s : ℕ)
  (hx : ∀ (j : Fin 528) (c : Fin 128), x (ix3 0 j c) = e c (s + j.val)) (r : Fin 512) (l : Fin 128)

include hi hx

theorem group0 : k0_pay8 (F := Ideal) (k0_pay6 i x) (k0_pay7 wt) sc (ix3 0 r l)
    = mixed 2 e (s + (16 + r.val)) (fun c => wt (ix3 0 c l)) (sc (ix2 0 l)) := by
  refine (pay8_at _ _ _ _ _).trans (congrArg (· * _) (Finset.sum_congr rfl fun c _ => ?_))
  rw [pay6_at, pay7_at, count_at 2 (by norm_num) i hi, folded1 _ (fun j => e c (s + j)) (fun j => hx j c) _ (by show 2 ≤ 16 + r.val; omega), hx,
    back_shift 2 (e c) s _ (by show 2 ≤ 16 + r.val + 1; omega)]
  rfl

theorem group1 : k0_pay9 (F := Ideal) (k0_pay5 i) x wt sc (ix3 0 r l)
    = mixed 4 e (s + (16 + r.val)) (fun c => wt (ix3 0 c l)) (sc (ix2 0 l)) := by
  refine (pay9_at _ _ _ _ _ _).trans (congrArg (· * _) (Finset.sum_congr rfl fun c _ => ?_))
  rw [count_at 4 (by norm_num) i hi, folded2 _ (fun j => e c (s + j)) (fun j => hx j c) _ (by show 4 ≤ 16 + r.val; omega), hx,
    back_shift 4 (e c) s _ (by show 4 ≤ 16 + r.val + 1; omega)]
  rfl

theorem group2 : k0_pay10 (F := Ideal) (k0_pay5 i) x wt sc (ix3 0 r l)
    = mixed 8 e (s + (16 + r.val)) (fun c => wt (ix3 0 c l)) (sc (ix2 0 l)) := by
  refine (pay10_at _ _ _ _ _ _).trans (congrArg (· * _) (Finset.sum_congr rfl fun c _ => ?_))
  rw [count_at 8 (by norm_num) i hi, folded4 _ (fun j => e c (s + j)) (fun j => hx j c) _ (by show 8 ≤ 16 + r.val; omega), hx,
    back_shift 8 (e c) s _ (by show 8 ≤ 16 + r.val + 1; omega)]
  rfl

theorem group3 : k0_pay1 (F := Ideal) (k0_pay5 i) (k0_pay11 x) (k0_pay12 x) wt sc (ix3 0 r l)
    = mixed 16 e (s + (16 + r.val)) (fun c => wt (ix3 0 c l)) (sc (ix2 0 l)) := by
  refine (pay1_at _ _ _ _ _ _ _).trans (congrArg (· * _) (Finset.sum_congr rfl fun c _ => ?_))
  rw [count_at 16 (by norm_num) i hi, pay11_at, funext fun j => pay12_at x j c,
    folded8 _ (fun j => e c (s + j)) (fun j => hx j c) _ (by show 16 ≤ 16 + r.val; omega), hx,
    back_shift 16 (e c) s _ (by show 16 ≤ 16 + r.val + 1; omega)]
  rfl

end Groups

end Cert.PoolTie

end
-- ==== Proof.PoolValue.lean ====
/-
The pooling kernel's carried buffer and its stored blocks: sixteen earlier rows above a tile's own rows, and the four groups of
columns pooled over windows of 2, 4, 8 and 16 rows.
-/
module
public import proofs.«01_k».proof.Proof.PoolBlocks
public import proofs.«01_k».proof.Proof.PoolPay

@[expose] public section

set_option maxRecDepth 16384

noncomputable section

open Idealize.ShloMosaic Idealize.ShloMosaic.TcCoe Idealize.SL.Sem
open Idealize.ShloMosaic.Pipeline (Dat)

namespace Cert.PoolTie

open Cert.PoolKernelIdeal Cert.PoolKernelIdeal.Gen Cert.Pool

variable (m : (ℓ : Loc nD τ sig) → Buf (Elt Ideal) ℓ)

/-- A pooled column of a sequence, over the argument arrays. -/
abbrev histOf (c : Dev nD) : Fin 4 → Fin 512 → ℕ → EReal :=
  hist (m ((c : Thread nD τ).loc main_arg0)) (m ((c : Thread nD τ).loc main_arg1))

/-- The pooling's output, over the argument arrays. -/
abbrev pooledOf (c : Dev nD) : Fin 4 → Fin 8192 → Fin 512 → EReal :=
  pooled (m ((c : Thread nD τ).loc main_arg0)) (m ((c : Thread nD τ).loc main_arg1)) (m ((c : Thread nD τ).loc main_arg2))
    (m ((c : Thread nD τ).loc main_arg3))

/-- A row of a sequence in its history. -/
theorem hist_row (c : Dev nD) (t : Fin cfg0.N) (y : Fin 512) (d : Fin 512) (q : ℕ) (hq : q = t.val % 16 * 512 + y.val + 16) :
    m ((c : Thread nD τ).loc main_arg0) (ix3 (tb t) (ts t y) ⟨d, by omega⟩) = histOf m c (tb t) d q := by
  subst hq
  unfold histOf hist history
  rw [dif_neg (by omega), dif_pos (by omega)]
  exact congrArg _ (congrArg (fun z => ix3 (tb t) z ⟨d.val, by omega⟩) (Fin.ext (show t.val % 16 * 512 + y.val = _ - 16 by omega)))

/-- Sixteen rows above a tile: the buffer the pooling reads. -/
theorem stacked (bot : FVec Ideal S1x512x512 .f32) (top : FVec Ideal S1x16x512 .f32) (p : Fin 528) (d : Fin 512) :
    View.canon (Val := Elt Ideal) (e := .f32) [⟨Rect.unit (s := S1x528x512) ![0, 16, 0] ![1, 512, 512] inb_S1x528x512_S1x512x512_0_16_0, bot⟩,
        ⟨Rect.unit (s := S1x528x512) ![0, 0, 0] ![1, 16, 512] inb_S1x528x512_S1x16x512_0_0_0, top⟩] (ix3 0 p d)
      = if h : p.val < 16 then top (ix3 0 ⟨p, h⟩ d) else bot (ix3 0 ⟨p - 16, by omega⟩ d) := by
  canon_tiles x h using View.cover_of_tiledBy _ ![1, 16, 512] (by sl_kernel_rfl) _
  · idx_vars x
    rw [dif_neg (by have e : ((ix3 0 p d : S1x528x512.Idx) 1 : ℕ) = p.val := rfl; omega)]
    exact congrArg bot (by blk_ext)
  · idx_vars x
    rw [dif_pos (by have e : ((ix3 0 p d : S1x528x512.Idx) 1 : ℕ) = p.val := rfl; omega)]
    exact congrArg top (by blk_ext)

/-- The rows kept after point `t`: the tile's own. -/
theorem kept (c : Dev nD) (t : Fin cfg0.N) (y : Fin 512) (d : Fin 512) :
    (outsAt0 m c t.val t.isLt).2 (ix3 0 ⟨16 + y, by omega⟩ d) = histOf m c (tb t) d (t.val % 16 * 512 + y.val + 16) := by
  by_cases ht : t.val % 16 = 0
  · rw [outsAt0_A m c t ht (by omega)]
    dsimp only
    frame_open
    frame_out
    refine (stacked _ _ _ _).trans ?_
    rw [dif_neg (by simp only []; omega)]
    refine (pay4_at _ _ _).trans (Eq.trans ?_ ((rows m c t y d).trans (hist_row m c t y d _ rfl)))
    exact congrArg (X0_0 m c t) (congrArg (fun z => (ix3 0 z d : S1x512x512.Idx)) (Fin.ext (Nat.add_sub_cancel_left 16 y.val)))
  · rw [outsAt0_B m c t ht (by omega)]
    dsimp only
    frame_open
    frame_out
    refine (stacked _ _ _ _).trans ?_
    rw [dif_neg (by simp only []; omega)]
    refine (pay4_at _ _ _).trans (Eq.trans ?_ ((rows m c t y d).trans (hist_row m c t y d _ rfl)))
    exact congrArg (X0_0 m c t) (congrArg (fun z => (ix3 0 z d : S1x512x512.Idx)) (Fin.ext (Nat.add_sub_cancel_left 16 y.val)))

/-- The buffer at a sequence's first tile. -/
theorem buffer_first (c : Dev nD) (t : Fin cfg0.N) (ht : t.val % 16 = 0) (p : Fin 528) (d : Fin 512) :
    View.canon (Val := Elt Ideal) (e := .f32) [⟨Rect.unit (s := S1x528x512) ![0, 16, 0] ![1, 512, 512] inb_S1x528x512_S1x512x512_0_16_0, k0_pay4 (F := Ideal) (X0_0 m c t)⟩,
        ⟨Rect.unit (s := S1x528x512) ![0, 0, 0] ![1, 16, 512] inb_S1x528x512_S1x16x512_0_0_0, k0_pay2 (F := Ideal) (iblk m c 1 t)⟩] (ix3 0 p d)
      = histOf m c (tb t) d (t.val % 16 * 512 + p.val) := by
  rw [stacked]
  by_cases hp : p.val < 16
  · rw [dif_pos hp]
    refine (pay2_at _ _ _).trans (((params m c t).1 _ d).trans ?_)
    unfold histOf hist history
    rw [dif_pos (by omega)]
    exact congrArg _ (congrArg (ix2 · d) (Fin.ext (show p.val = t.val % 16 * 512 + p.val by omega)))
  · rw [dif_neg hp]
    exact (pay4_at _ _ _).trans ((rows m c t _ d).trans (hist_row m c t _ d _ (by simp only []; omega)))

/-- The buffer at a later tile: its head is the previous tile's last rows. -/
theorem buffer_next (c : Dev nD) (t : Fin cfg0.N) (ht : ¬t.val % 16 = 0) (top : FVec Ideal S1x16x512 .f32)
    (hT : ∀ (i : Fin 16) (d : Fin 512), top (ix3 0 i d)
      = (outsAt0 m c (t.val - 1) (lt_of_le_of_lt (Nat.sub_le _ _) t.isLt)).2 (ix3 0 ⟨512 + i, by omega⟩ d))
    (p : Fin 528) (d : Fin 512) :
    View.canon (Val := Elt Ideal) (e := .f32) [⟨Rect.unit (s := S1x528x512) ![0, 16, 0] ![1, 512, 512] inb_S1x528x512_S1x512x512_0_16_0, k0_pay4 (F := Ideal) (X0_0 m c t)⟩,
        ⟨Rect.unit (s := S1x528x512) ![0, 0, 0] ![1, 16, 512] inb_S1x528x512_S1x16x512_0_0_0, top⟩] (ix3 0 p d)
      = histOf m c (tb t) d (t.val % 16 * 512 + p.val) := by
  rw [stacked]
  by_cases hp : p.val < 16
  · rw [dif_pos hp, hT]
    have hlt := lt64 t
    have e1 : tb ⟨t.val - 1, lt_of_le_of_lt (Nat.sub_le _ _) t.isLt⟩ = tb t := Fin.ext (show (t.val - 1) / 16 = t.val / 16 by omega)
    refine Eq.trans ?_ ((kept m c ⟨t.val - 1, lt_of_le_of_lt (Nat.sub_le _ _) t.isLt⟩ ⟨496 + p, by omega⟩ d).trans ?_)
    · exact congrArg _ (congrArg (ix3 0 · d) (Fin.ext (show 512 + p.val = 16 + (496 + p.val) by omega)))
    · rw [e1]
      exact congrArg _ (show (t.val - 1) % 16 * 512 + (496 + p.val) + 16 = t.val % 16 * 512 + p.val by omega)
  · rw [dif_neg hp]
    exact (pay4_at _ _ _).trans ((rows m c t _ d).trans (hist_row m c t _ d _ (by simp only []; omega)))

/-- A position in columns of the buffer. -/
theorem col_idx (off : ℕ) (hb : ∀ a, (![0, 0, off] : Fin 3 → ℕ) a + (![1, 528, 128] : Fin 3 → ℕ) a ≤ S1x528x512.size a)
    (j : Fin 528) (k : Fin 128) (d : Fin 512) (h : d.val = off + k.val) :
    (Rect.unit (s := S1x528x512) ![0, 0, off] ![1, 528, 128] hb).idx (ix3 0 j k) = ix3 0 j d := by
  funext a
  fin_cases a
  · exact Fin.ext (show 0 + 1 * 0 = 0 by omega)
  · exact Fin.ext (show 0 + 1 * j.val = j.val by omega)
  · exact Fin.ext (show off + 1 * k.val = d.val by omega)

/-- A position in one group's weights. -/
theorem wt_idx (off : ℕ) (hb : ∀ a, (![off, 0, 0] : Fin 3 → ℕ) a + (![1, 128, 128] : Fin 3 → ℕ) a ≤ S4x128x128.size a)
    (k l : Fin 128) (g : Fin 4) (h : g.val = off) :
    (Rect.unit (s := S4x128x128) ![off, 0, 0] ![1, 128, 128] hb).idx (ix3 0 k l) = ix3 g k l := by
  funext a
  fin_cases a
  · exact Fin.ext (show off + 1 * 0 = g.val by omega)
  · exact Fin.ext (show 0 + 1 * k.val = k.val by omega)
  · exact Fin.ext (show 0 + 1 * l.val = l.val by omega)

/-- A position in one group's scale. -/
theorem sc_idx (off : ℕ) (hb : ∀ a, (![0, off] : Fin 2 → ℕ) a + (![1, 128] : Fin 2 → ℕ) a ≤ S1x512.size a)
    (l : Fin 128) (d : Fin 512) (h : d.val = off + l.val) :
    (Rect.unit (s := S1x512) ![0, off] ![1, 128] hb).idx (ix2 0 l) = ix2 0 d := by
  funext a
  fin_cases a
  · exact Fin.ext (show 0 + 1 * 0 = 0 by omega)
  · exact Fin.ext (show off + 1 * l.val = d.val by omega)

/-- A rows' block of sixteen in the buffer. -/
theorem tail_idx (i : Fin 16) (d : Fin 512) (hb : ∀ a, (![0, 512, 0] : Fin 3 → ℕ) a + (![1, 16, 512] : Fin 3 → ℕ) a ≤ S1x528x512.size a) :
    (Rect.unit (s := S1x528x512) ![0, 512, 0] ![1, 16, 512] hb).idx (ix3 0 i d) = ix3 0 ⟨512 + i, by omega⟩ d := by
  funext a
  fin_cases a
  · exact Fin.ext (show 0 + 1 * 0 = 0 by omega)
  · exact Fin.ext (show 512 + 1 * i.val = 512 + i.val by omega)
  · exact Fin.ext (show 0 + 1 * d.val = d.val by omega)

/-- A group's stored entry is the pooling's output. -/
theorem closing (c : Dev nD) (t : Fin cfg0.N) (y : Fin 512) (d : Fin 512) (g : Fin 4) (l : Fin 128) (off : ℕ) (ho : off = g.val * 128)
    (hd : d.val = off + l.val) (w : ℕ) (hw : w = 2 ^ (g.val + 1)) (W : Fin 128 → EReal)
    (hW : ∀ k, W k = iblk m c 2 t (ix3 g k l)) (S : EReal) (hS : S = iblk m c 3 t (ix2 0 d)) :
    mixed w (fun k => histOf m c (tb t) ⟨g.val * 128 + k.val, by omega⟩) (t.val % 16 * 512 + (16 + y.val)) W S
      = pooledOf m c (tb t) (ts t y) d :=
  pooled_of _ _ _ _ _ _ d g l (by omega) w hw _ (fun _ => rfl) _ (show t.val % 16 * 512 + (16 + y.val) = t.val % 16 * 512 + y.val + 16 by omega) W
    (fun k => (hW k).trans ((params m c t).2.1 g k l)) S (hS.trans ((params m c t).2.2 d))

/-- The second grid coordinate is less than sixteen. -/
theorem coord_lt (t : Fin cfg0.N) : (grid0.coords t 1).val < 16 := (grid0.coords t 1).isLt

set_option maxHeartbeats 4000000 in
/-- The stored block. -/
theorem out_rows (c : Dev nD) (t : Fin cfg0.N) (y : Fin 512) (d : Fin 512) :
    (outsAt0 m c t.val t.isLt).1 (ix3 0 y d) = pooledOf m c (tb t) (ts t y) d := by
  by_cases ht : t.val % 16 = 0
  · rw [outsAt0_A m c t ht (by omega)]
    dsimp only
    frame_open
    frame_out
    simp only [View.readCov_eq_canon']
    have hE := buffer_first m c t ht
    canon_tiles x h using View.cover_of_tiledBy _ ![1, 512, 128] (by sl_kernel_rfl) _
    all_goals
      idx_vars x
      obtain rfl : y = x1 := Fin.ext (by omega)
      obtain rfl : x0 = 0 := Fin.ext (by omega)
    · refine (group3 _ (coord_lt t) _ _ _ (fun k => histOf m c (tb t) ⟨(3 : Fin 4).val * 128 + k.val, by omega⟩) (t.val % 16 * 512) (fun j k => ?_) y x2).trans
        (closing m c t y d 3 x2 384 rfl (by omega) 16 rfl _ (fun k => congrArg (iblk m c 2 t) (wt_idx 3 _ k x2 3 rfl)) _ (congrArg (iblk m c 3 t) (sc_idx 384 _ x2 d (by omega))))
      exact (congrArg _ (col_idx 384 _ j k ⟨384 + k, by omega⟩ rfl)).trans (hE j _)
    · refine (group2 _ (coord_lt t) _ _ _ (fun k => histOf m c (tb t) ⟨(2 : Fin 4).val * 128 + k.val, by omega⟩) (t.val % 16 * 512) (fun j k => ?_) y x2).trans
        (closing m c t y d 2 x2 256 rfl (by omega) 8 rfl _ (fun k => congrArg (iblk m c 2 t) (wt_idx 2 _ k x2 2 rfl)) _ (congrArg (iblk m c 3 t) (sc_idx 256 _ x2 d (by omega))))
      exact (congrArg _ (col_idx 256 _ j k ⟨256 + k, by omega⟩ rfl)).trans (hE j _)
    · refine (group1 _ (coord_lt t) _ _ _ (fun k => histOf m c (tb t) ⟨(1 : Fin 4).val * 128 + k.val, by omega⟩) (t.val % 16 * 512) (fun j k => ?_) y x2).trans
        (closing m c t y d 1 x2 128 rfl (by omega) 4 rfl _ (fun k => congrArg (iblk m c 2 t) (wt_idx 1 _ k x2 1 rfl)) _ (congrArg (iblk m c 3 t) (sc_idx 128 _ x2 d (by omega))))
      exact (congrArg _ (col_idx 128 _ j k ⟨128 + k, by omega⟩ rfl)).trans (hE j _)
    · refine (group0 _ (coord_lt t) _ _ _ (fun k => histOf m c (tb t) ⟨(0 : Fin 4).val * 128 + k.val, by omega⟩) (t.val % 16 * 512) (fun j k => ?_) y x2).trans
        (closing m c t y d 0 x2 0 rfl (by omega) 2 rfl _ (fun k => congrArg (iblk m c 2 t) (wt_idx 0 _ k x2 0 rfl)) _ (congrArg (iblk m c 3 t) (sc_idx 0 _ x2 d (by omega))))
      exact (congrArg _ (col_idx 0 _ j k ⟨0 + k, by omega⟩ rfl)).trans (hE j _)
  · rw [outsAt0_B m c t ht (by omega)]
    dsimp only
    frame_open
    frame_out
    simp only [View.readCov_eq_canon']
    generalize hT : k0_pay3 _ = top
    have hE := buffer_next m c t ht top (fun i d => by
      rw [← hT]
      exact (pay3_at _ i d).trans ((congrFun (Memref.IsWhole.read_unread _ _) ((Rect.unit (s := S1x528x512) ![0, 512, 0] ![1, 16, 512] inb_S1x528x512_S1x16x512_0_512_0).idx (ix3 0 i d))).trans
        (congrArg _ (tail_idx i d _))))
    canon_tiles x h using View.cover_of_tiledBy _ ![1, 512, 128] (by sl_kernel_rfl) _
    all_goals
      idx_vars x
      obtain rfl : y = x1 := Fin.ext (by omega)
      obtain rfl : x0 = 0 := Fin.ext (by omega)
    · refine (group3 _ (coord_lt t) _ _ _ (fun k => histOf m c (tb t) ⟨(3 : Fin 4).val * 128 + k.val, by omega⟩) (t.val % 16 * 512) (fun j k => ?_) y x2).trans
        (closing m c t y d 3 x2 384 rfl (by omega) 16 rfl _ (fun k => congrArg (iblk m c 2 t) (wt_idx 3 _ k x2 3 rfl)) _ (congrArg (iblk m c 3 t) (sc_idx 384 _ x2 d (by omega))))
      exact (congrArg _ (col_idx 384 _ j k ⟨384 + k, by omega⟩ rfl)).trans (hE j _)
    · refine (group2 _ (coord_lt t) _ _ _ (fun k => histOf m c (tb t) ⟨(2 : Fin 4).val * 128 + k.val, by omega⟩) (t.val % 16 * 512) (fun j k => ?_) y x2).trans
        (closing m c t y d 2 x2 256 rfl (by omega) 8 rfl _ (fun k => congrArg (iblk m c 2 t) (wt_idx 2 _ k x2 2 rfl)) _ (congrArg (iblk m c 3 t) (sc_idx 256 _ x2 d (by omega))))
      exact (congrArg _ (col_idx 256 _ j k ⟨256 + k, by omega⟩ rfl)).trans (hE j _)
    · refine (group1 _ (coord_lt t) _ _ _ (fun k => histOf m c (tb t) ⟨(1 : Fin 4).val * 128 + k.val, by omega⟩) (t.val % 16 * 512) (fun j k => ?_) y x2).trans
        (closing m c t y d 1 x2 128 rfl (by omega) 4 rfl _ (fun k => congrArg (iblk m c 2 t) (wt_idx 1 _ k x2 1 rfl)) _ (congrArg (iblk m c 3 t) (sc_idx 128 _ x2 d (by omega))))
      exact (congrArg _ (col_idx 128 _ j k ⟨128 + k, by omega⟩ rfl)).trans (hE j _)
    · refine (group0 _ (coord_lt t) _ _ _ (fun k => histOf m c (tb t) ⟨(0 : Fin 4).val * 128 + k.val, by omega⟩) (t.val % 16 * 512) (fun j k => ?_) y x2).trans
        (closing m c t y d 0 x2 0 rfl (by omega) 2 rfl _ (fun k => congrArg (iblk m c 2 t) (wt_idx 0 _ k x2 0 rfl)) _ (congrArg (iblk m c 3 t) (sc_idx 0 _ x2 d (by omega))))
      exact (congrArg _ (col_idx 0 _ j k ⟨0 + k, by omega⟩ rfl)).trans (hE j _)

/-- The kernel's result array. -/
def poolOut (c : Dev nD) : FVec Ideal S4x8192x512 .bf16 := fun i => pooledOf m c (i 0) (i 1) (i 2)

set_option maxHeartbeats 1600000 in
/-- The kernel's result array, entry by entry. -/
theorem final (c : Dev nD) : (dats m 0 c).arrAt 4 cfg0.N = poolOut m c := by
  refine (dats m 0 c).arrAt_eq_of_covers 4 _ (by decide +kernel) fun t hf y => ?_
  blk_simp
  rw [after0_4]
  idx_vars y
  obtain rfl : y0 = 0 := Fin.ext (by omega)
  refine (out_rows m c t y1 y2).trans ?_
  have e : (((View.whole main_v20).slice (win0_4.rect t)).emb (ix3 0 y1 y2)) = ix3 (tb t) (ts t y1) y2 := by
    unfold tb ts
    blk_ext [idx t]
  refine Eq.trans ?_ (congrArg (poolOut m c) e).symm
  rfl

end Cert.PoolTie

end
-- ==== Proof.PoolSums.lean ====
/-
A running sum down the rows, as the host writes it (a window of the whole height, padded above), is at each row the sum of the
rows up to it.
-/
module
public import proofs.«01_k».proof.Proof.PoolRows

@[expose] public section

set_option maxRecDepth 16384

noncomputable section

namespace Cert.Pool

open Idealize.ShloMosaic

theorem foldl_plus {ι : Type} (f : ι → EReal) (l : List ι) (z : EReal) : l.foldl (fun r n => r + f n) z = z + (l.map f).sum := by
  induction l generalizing z with
  | nil => simp
  | cons a l ih => rw [List.foldl_cons, ih, List.map_cons, List.sum_cons, add_assoc]

/-- A sum over the places of a column. -/
theorem sum_column (N : ℕ) (T : (⟨3, ![1, N, 1]⟩ : Shape).Idx → EReal) : ∑ i, T i = ∑ n : Fin N, T (ix3 0 n 0) := by
  refine (Fintype.sum_bijective (fun n : Fin N => (ix3 0 n 0 : (⟨3, ![1, N, 1]⟩ : Shape).Idx)) ⟨fun a b hab => ?_, fun i => ?_⟩ _ _ fun n => rfl).symm
  · exact congrFun hab 1
  · refine ⟨i 1, funext fun a => ?_⟩
    fin_cases a
    · exact Fin.ext (by have h : (i 0 : ℕ) < 1 := (i 0).isLt; show 0 = (i 0 : ℕ); omega)
    · rfl
    · exact Fin.ext (by have h : (i 2 : ℕ) < 1 := (i 2).isLt; show 0 = (i 2 : ℕ); omega)

theorem sum_window (M q : ℕ) (hq : q ≤ M) (P : ℕ → EReal) :
    ∑ n ∈ Finset.range (M + 1), (if M ≤ q + n then P (q + n - M) else 0) = ∑ n ∈ Finset.range (q + 1), P n := by
  have e : M + 1 = (M - q) + (q + 1) := by omega
  rw [e, Finset.sum_range_add]
  refine (congrArg₂ (· + ·) (Finset.sum_eq_zero fun n hn => ?_) (Finset.sum_congr rfl fun n hn => ?_)).trans (zero_add _)
  · have := Finset.mem_range.mp hn
    exact if_neg (by omega)
  · rw [if_pos (by omega)]
    congr 1; omega

/-- What a place of the window adds: the row it falls on, or nothing above the first. -/
def place {B D M : ℕ} (x : FVec Ideal ⟨3, ![B, M + 1, D]⟩ .f32) (b : Fin B) (q : Fin (M + 1)) (d : Fin D) (i : (⟨3, ![1, M + 1, 1]⟩ : Shape).Idx) : EReal :=
  if hin : ∀ a : Fin 3, (![0, M, 0] : Fin 3 → ℕ) a ≤ ((ix3 b q d : (⟨3, ![B, M + 1, D]⟩ : Shape).Idx) a).val * (![1, 1, 1] : Fin 3 → ℕ) a + (i a).val
      ∧ ((ix3 b q d : (⟨3, ![B, M + 1, D]⟩ : Shape).Idx) a).val * (![1, 1, 1] : Fin 3 → ℕ) a + (i a).val - (![0, M, 0] : Fin 3 → ℕ) a < (⟨3, ![B, M + 1, D]⟩ : Shape).size a
    then x (fun a => ⟨((ix3 b q d : (⟨3, ![B, M + 1, D]⟩ : Shape).Idx) a).val * (![1, 1, 1] : Fin 3 → ℕ) a + (i a).val - (![0, M, 0] : Fin 3 → ℕ) a, (hin a).2⟩) else 0

/-- The host's running sum. -/
theorem cumsum_at {B D M : ℕ} (x : FVec Ideal ⟨3, ![B, M + 1, D]⟩ .f32) (v : FVec Ideal ⟨0, ![]⟩ .f32) (hv : ∀ i, v i = 0)
    (h : (⟨3, ![B, M + 1, D]⟩ : Shape).ReduceWindows (![1, M + 1, 1] : Fin 3 → ℕ) ![1, 1, 1] ![0, M, 0] ![0, 0, 0] ⟨3, ![B, M + 1, D]⟩)
    (hu : 0 < (⟨0, ![]⟩ : Shape).numel) (b : Fin B) (q : Fin (M + 1)) (d : Fin D) :
    Host.reduceWindowAdd (F := Ideal) (![1, M + 1, 1] : Fin 3 → ℕ) ![1, 1, 1] ![0, M, 0] ![0, 0, 0] x v h hu (ix3 b q d)
      = ∑ n ∈ Finset.range (q.val + 1), if hn : n < M + 1 then x (ix3 b ⟨n, hn⟩ d) else 0 := by
  unfold Host.reduceWindowAdd
  rw [Ideal.hostReduceWindowAdd_def, hv]
  unfold Ideal.hostReduceWindowAdd Host.reduceWindow
  dsimp only
  refine (foldl_plus _ _ _).trans ?_
  rw [zero_add, ← Fin.sum_univ_def]
  refine Eq.trans (Finset.sum_congr (g := fun n => place x b q d ((⟨3, ![1, M + 1, 1]⟩ : Shape).rowMajor.symm n)) rfl fun n _ => ?_) ?_
  · unfold place
    split_ifs with h1 h2 h2
    · rfl
    · exact absurd h1 h2
    · exact absurd h2 h1
    · rfl
  refine (Equiv.sum_comp (⟨3, ![1, M + 1, 1]⟩ : Shape).rowMajor.symm _).trans ((sum_column _ _).trans ?_)
  have hq := q.isLt
  rw [← sum_window M q.val (by omega), Finset.sum_range]
  refine Finset.sum_congr rfl fun n _ => ?_
  have hn := n.isLt
  by_cases hc : M ≤ q.val + n.val
  · rw [if_pos hc, dif_pos (by omega : q.val + n.val - M < M + 1)]
    refine (dif_pos (fun a => ?_)).trans (congrArg x (funext fun a => Fin.ext ?_))
    · fin_cases a
      · show 0 ≤ b.val * 1 + 0 ∧ b.val * 1 + 0 - 0 < B
        omega
      · show M ≤ q.val * 1 + n.val ∧ q.val * 1 + n.val - M < M + 1
        omega
      · show 0 ≤ d.val * 1 + 0 ∧ d.val * 1 + 0 - 0 < D
        omega
    · fin_cases a
      · show b.val * 1 + 0 - 0 = b.val
        omega
      · show q.val * 1 + n.val - M = q.val + n.val - M
        omega
      · show d.val * 1 + 0 - 0 = d.val
        omega
  · rw [if_neg hc]
    refine dif_neg fun hin => hc ?_
    have h1 : M ≤ q.val * 1 + n.val := (hin 1).1
    omega

end Cert.Pool

end
-- ==== Proof.PoolRef.lean ====
/-
The pooling's reference, read at one token and one column.
-/
module
public import proofs.«01_k».proof.Proof.Gen.PoolReferenceIdeal.Run
public import proofs.«01_k».proof.Proof.PoolSums

@[expose] public section

set_option maxRecDepth 16384

noncomputable section

open Idealize.ShloMosaic Idealize.ShloMosaic.TcCoe Idealize.SL.Sem

namespace Cert.PoolReferenceIdeal.Pure

open Cert.PoolReferenceIdeal Cert.PoolReferenceIdeal.Gen Cert.PoolReferenceIdeal.Value Cert.Pool

/-- The rows, fifteen of the memory's first. -/
def refExt (h : FVec Ideal S4x8192x6408 .f32) (mu : FVec Ideal S16x512 .f32) : FVec Ideal S4x8207x512 .f32 :=
  (concatenate S4x8207x512 1 [⟨S4x15x512, (broadcastInDim S4x15x512 ![0, 1, 2] bcast_S1x15x512_S4x15x512_0_1_2 (broadcastInDim S1x15x512 ![1, 2] bcast_S15x512_S1x15x512_1_2 (extractStridedSlice S15x512 ![1, 0] mu slices_S16x512_S15x512_1_0)))⟩, ⟨S4x8192x512, (extractStridedSlice S4x8192x512 ![0, 0, 0] h slices_S4x8192x6408_S4x8192x512_0_0_0)⟩] concatenates_S4x15x512_S4x8192x512_S4x8207x512_d1)

/-- A row of zeros above them. -/
def refPad (E : FVec Ideal S4x8207x512 .f32) : FVec Ideal S4x8208x512 .f32 :=
  (pad S4x8208x512 ![0, 1, 0] ![0, 0, 0] ![0, 0, 0] E (sitofp .f32 (constantI S_ 32 0#32)) pads_S4x8207x512_S4x8208x512_000_100_000 h_S_)

/-- The running sums. -/
def refSums (x : FVec Ideal S4x8208x512 .f32) : FVec Ideal S4x8208x512 .f32 :=
  (Host.reduceWindowAdd ![1, 8208, 1] ![1, 1, 1] ![0, 8207, 0] ![0, 0, 0] x (broadcastInDim S_ ![] bcast_S_S_ (constant S_ .f32 0x00000000#32)) reduceWindows_S4x8208x512_S4x8208x512_w1s1p0_0_w8208s1p8207_0_w1s1p0_0 h_S_)

/-- The windows' means less the rows. -/
def refDiff (C : FVec Ideal S4x8208x512 .f32) (E : FVec Ideal S4x8207x512 .f32) : FVec Ideal S4x8192x512 .f32 :=
  (subf ((concatenate S4x8192x512 2 [⟨S4x8192x128, ((Host.divf (subf (extractStridedSlice S4x8192x128 ![0, 0, 0] (extractStridedSlice S4x8192x512 ![0, 16, 0] C slices_S4x8208x512_S4x8192x512_0_16_0) slices_S4x8192x512_S4x8192x128_0_0_0) (extractStridedSlice S4x8192x128 ![0, 14, 0] C slices_S4x8208x512_S4x8192x128_0_14_0)) (broadcastInDim S4x8192x128 ![0, 1, 2] bcast_S1x8192x1_S4x8192x128_0_1_2 (broadcastInDim S1x8192x1 ![1] bcast_S8192_S1x8192x1_1 (sitofp .f32 (minsi (broadcastInDim S8192 ![] bcast_S_S8192 (constantI S_ 32 2#32)) (addi (addi (broadcastInDim S8192 ![] bcast_S_S8192 (constantI S_ 32 16#32)) (iotaInDim S8192 32 0)) (broadcastInDim S8192 ![] bcast_S_S8192 (constantI S_ 32 1#32)))))))) : (⟨S4x8192x128, .f32⟩ : BufTy).Contents (Elt Ideal))⟩, ⟨S4x8192x128, ((Host.divf (subf (extractStridedSlice S4x8192x128 ![0, 0, 128] (extractStridedSlice S4x8192x512 ![0, 16, 0] C slices_S4x8208x512_S4x8192x512_0_16_0) slices_S4x8192x512_S4x8192x128_0_0_128) (extractStridedSlice S4x8192x128 ![0, 12, 128] C slices_S4x8208x512_S4x8192x128_0_12_128)) (broadcastInDim S4x8192x128 ![0, 1, 2] bcast_S1x8192x1_S4x8192x128_0_1_2 (broadcastInDim S1x8192x1 ![1] bcast_S8192_S1x8192x1_1 (sitofp .f32 (minsi (broadcastInDim S8192 ![] bcast_S_S8192 (constantI S_ 32 4#32)) (addi (addi (broadcastInDim S8192 ![] bcast_S_S8192 (constantI S_ 32 16#32)) (iotaInDim S8192 32 0)) (broadcastInDim S8192 ![] bcast_S_S8192 (constantI S_ 32 1#32)))))))) : (⟨S4x8192x128, .f32⟩ : BufTy).Contents (Elt Ideal))⟩, ⟨S4x8192x128, ((Host.divf (subf (extractStridedSlice S4x8192x128 ![0, 0, 256] (extractStridedSlice S4x8192x512 ![0, 16, 0] C slices_S4x8208x512_S4x8192x512_0_16_0) slices_S4x8192x512_S4x8192x128_0_0_256) (extractStridedSlice S4x8192x128 ![0, 8, 256] C slices_S4x8208x512_S4x8192x128_0_8_256)) (broadcastInDim S4x8192x128 ![0, 1, 2] bcast_S1x8192x1_S4x8192x128_0_1_2 (broadcastInDim S1x8192x1 ![1] bcast_S8192_S1x8192x1_1 (sitofp .f32 (minsi (broadcastInDim S8192 ![] bcast_S_S8192 (constantI S_ 32 8#32)) (addi (addi (broadcastInDim S8192 ![] bcast_S_S8192 (constantI S_ 32 16#32)) (iotaInDim S8192 32 0)) (broadcastInDim S8192 ![] bcast_S_S8192 (constantI S_ 32 1#32)))))))) : (⟨S4x8192x128, .f32⟩ : BufTy).Contents (Elt Ideal))⟩, ⟨S4x8192x128, ((Host.divf (subf (extractStridedSlice S4x8192x128 ![0, 0, 384] (extractStridedSlice S4x8192x512 ![0, 16, 0] C slices_S4x8208x512_S4x8192x512_0_16_0) slices_S4x8192x512_S4x8192x128_0_0_384) (extractStridedSlice S4x8192x128 ![0, 0, 384] C slices_S4x8208x512_S4x8192x128_0_0_384)) (broadcastInDim S4x8192x128 ![0, 1, 2] bcast_S1x8192x1_S4x8192x128_0_1_2 (broadcastInDim S1x8192x1 ![1] bcast_S8192_S1x8192x1_1 (sitofp .f32 (minsi (broadcastInDim S8192 ![] bcast_S_S8192 (constantI S_ 32 16#32)) (addi (addi (broadcastInDim S8192 ![] bcast_S_S8192 (constantI S_ 32 16#32)) (iotaInDim S8192 32 0)) (broadcastInDim S8192 ![] bcast_S_S8192 (constantI S_ 32 1#32)))))))) : (⟨S4x8192x128, .f32⟩ : BufTy).Contents (Elt Ideal))⟩] concatenates_S4x8192x128_S4x8192x128_S4x8192x128_S4x8192x128_S4x8192x512_d2 : (⟨S4x8192x512, .f32⟩ : BufTy).Contents (Elt Ideal))) (extractStridedSlice S4x8192x512 ![0, 15, 0] E slices_S4x8207x512_S4x8192x512_0_15_0))

/-- The groups mixed and scaled. -/
def refMix (X : FVec Ideal S4x8192x512 .f32) (pw : FVec Ideal S4x128x128 .f32) (ps : FVec Ideal S512 .f32) : FVec Ideal S4x8192x512 .bf16 :=
  truncf .bf16 (mulf (shapeCast _ (transpose S4x8192x4x128 [2, 3, 0, 1] (Host.dotGeneral dot_S4x128x128_S4x8192x4x128_S4x128x4x8192_1_3_2_01_0_2 none pw (shapeCast _ X shapeCasts_S4x8192x512_S4x8192x4x128)) transposes_S4x128x4x8192_S4x8192x4x128_2_3_0_1) shapeCasts_S4x8192x4x128_S4x8192x512) (broadcastInDim S4x8192x512 ![0, 1, 2] bcast_S1x1x512_S4x8192x512_0_1_2 (broadcastInDim S1x1x512 ![2] bcast_S512_S1x1x512_2 ps))) bitsLt_bf16_f32

/-- The whole reference. -/
def refTerm (h : FVec Ideal S4x8192x6408 .f32) (mu : FVec Ideal S16x512 .f32) (pw : FVec Ideal S4x128x128 .f32) (ps : FVec Ideal S512 .f32) :
    FVec Ideal S4x8192x512 .bf16 :=
  refMix (refDiff (refSums (refPad (refExt h mu))) (refExt h mu)) pw ps

theorem refExt_at (h : FVec Ideal S4x8192x6408 .f32) (mu : FVec Ideal S16x512 .f32) (b : Fin 4) (q : Fin 8207) (d : Fin 512) :
    refExt h mu (ix3 b q d) = hist h mu b d (q.val + 1) := by
  unfold hist history
  pointwise [refExt]
  by_cases hq : q.val < 15
  · rw [dif_pos hq, dif_pos (by omega)]
    exact congrArg mu (congrArg (ix2 · d) (Fin.ext (show 1 + q.val = q.val + 1 by omega)))
  · rw [dif_neg hq, dif_neg (by omega), dif_pos (by omega)]
    exact congrArg h (congrArg (fun z => ix3 b z ⟨d.val, by omega⟩) (Fin.ext (show q.val - 15 = q.val + 1 - 16 by omega)))

theorem zero_word : FloatOps.sitofp (F := Ideal) FTy.f32 0#32 = (0 : EReal) := by
  show (((0#32 : BitVec 32).toInt : ℝ) : EReal) = 0
  simp

theorem refPad_at (E : FVec Ideal S4x8207x512 .f32) (b : Fin 4) (q : Fin 8208) (d : Fin 512) :
    refPad E (ix3 b q d) = if h : q.val = 0 then 0 else E (ix3 b ⟨q - 1, by omega⟩ d) := by
  pointwise [refPad]
  by_cases hq : q.val = 0
  · rw [dif_neg (by omega), dif_pos hq, zero_word]
  · rw [dif_pos (by omega), dif_neg hq]

theorem refSums_at (x : FVec Ideal S4x8208x512 .f32) (b : Fin 4) (q : Fin 8208) (d : Fin 512) :
    refSums x (ix3 b q d) = ∑ n ∈ Finset.range (q.val + 1), if hn : n < 8208 then x (ix3 b ⟨n, hn⟩ d) else 0 :=
  cumsum_at (M := 8207) x _ (fun i => by pointwise) _ _ b q d

theorem count_at (w : ℕ) (hw : w ≤ 16) (p : Fin 8192) :
    FloatOps.sitofp (F := Ideal) FTy.f32 (IntOp.minsi (BitVec.ofNat 32 w) (IntOp.addi (IntOp.addi 16#32 (BitVec.ofNat 32 p.val)) 1#32)) = count w := by
  have e : IntOp.addi (IntOp.addi 16#32 (BitVec.ofNat 32 p.val)) 1#32 = BitVec.ofNat 32 (16 + p.val + 1) := by
    show (16#32 + BitVec.ofNat 32 p.val) + 1#32 = _
    apply BitVec.eq_of_toNat_eq
    simp only [BitVec.toNat_add, BitVec.toNat_ofNat]
    omega
  rw [e, min_pos w _ (by omega) (by omega)]
  rfl

/-- One window's mean, wherever its columns and rows are named from. -/
theorem mean_of (C : FVec Ideal S4x8208x512 .f32) (b : Fin 4) (p : Fin 8192) (d d' : Fin 512) (w : ℕ) (hw : w ≤ 16) (hd : d' = d) (q : Fin 8208)
    (hq : q.val = 16 + p.val - w) :
    Ideal.div (C (ix3 b ⟨16 + p, by omega⟩ d') - C (ix3 b q d'))
        (FloatOps.sitofp (F := Ideal) FTy.f32 (IntOp.minsi (BitVec.ofNat 32 w) (IntOp.addi (IntOp.addi 16#32 (BitVec.ofNat 32 p.val)) 1#32)))
      = Ideal.div (C (ix3 b ⟨16 + p, by omega⟩ d) - C (ix3 b ⟨16 + p - w, by omega⟩ d)) (count w) := by
  subst hd
  rw [count_at w hw]
  have e : q = ⟨16 + p.val - w, by omega⟩ := Fin.ext hq
  exact congrArg (fun z => Ideal.div (C (ix3 b ⟨16 + p.val, by omega⟩ d') - C (ix3 b z d')) (count w)) e

set_option maxHeartbeats 1600000 in
theorem refDiff_at (C : FVec Ideal S4x8208x512 .f32) (E : FVec Ideal S4x8207x512 .f32) (b : Fin 4) (p : Fin 8192) (d : Fin 512) (w : ℕ) (hw : w ≤ 16)
    (hd : w = 2 ^ (d.val / 128 + 1)) :
    refDiff C E (ix3 b p d) = Ideal.div (C (ix3 b ⟨16 + p, by omega⟩ d) - C (ix3 b ⟨16 + p - w, by omega⟩ d)) (count w) - E (ix3 b ⟨15 + p, by omega⟩ d) := by
  pointwise [refDiff]
  refine congrArg (· - _) ?_
  have hl := d.isLt
  rcases (show d.val < 128 ∨ (128 ≤ d.val ∧ d.val < 256) ∨ (256 ≤ d.val ∧ d.val < 384) ∨ 384 ≤ d.val by omega) with c | c | c | c
  · obtain rfl : w = 2 := by rw [hd, show d.val / 128 = 0 by omega]; rfl
    rw [dif_pos (by omega)]
    exact mean_of C b p d _ 2 (by norm_num) rfl _ (show 14 + p.val = 16 + p.val - 2 by omega)
  · obtain rfl : w = 4 := by rw [hd, show d.val / 128 = 1 by omega]; rfl
    rw [dif_neg (by omega), dif_pos (by omega)]
    exact mean_of C b p d _ 4 (by norm_num) (Fin.ext (show 128 + (d.val - 128) = d.val by omega)) _ (show 12 + p.val = 16 + p.val - 4 by omega)
  · obtain rfl : w = 8 := by rw [hd, show d.val / 128 = 2 by omega]; rfl
    rw [dif_neg (by omega), dif_neg (by omega), dif_pos (by omega)]
    exact mean_of C b p d _ 8 (by norm_num) (Fin.ext (show 256 + (d.val - 128 - 128) = d.val by omega)) _ (show 8 + p.val = 16 + p.val - 8 by omega)
  · obtain rfl : w = 16 := by rw [hd, show d.val / 128 = 3 by omega]; rfl
    rw [dif_neg (by omega), dif_neg (by omega), dif_neg (by omega)]
    exact mean_of C b p d _ 16 (by norm_num) (Fin.ext (show 384 + (d.val - 128 - 128 - 128) = d.val by omega)) _ (show p.val = 16 + p.val - 16 by omega)

theorem refMix_at (X : FVec Ideal S4x8192x512 .f32) (pw : FVec Ideal S4x128x128 .f32) (ps : FVec Ideal S512 .f32) (b : Fin 4) (p : Fin 8192) (d : Fin 512) :
    refMix X pw ps (ix3 b p d)
      = (∑ c, X (ix3 b p ⟨d.val / 128 * 128 + c.val, by omega⟩) * pw (ix3 ⟨d.val / 128, by omega⟩ c ⟨d.val % 128, by omega⟩)) * ps (ix1 d) := by
  pointwise [refMix]
  exact congrArg (· * _) (Finset.sum_congr rfl fun c _ => mul_comm _ _)

/-- The rows under the running sums: a zero, then the history. -/
def under (h : FVec Ideal S4x8192x6408 .f32) (mu : FVec Ideal S16x512 .f32) (b : Fin 4) (d : Fin 512) (n : ℕ) : EReal :=
  if hn : n < 8208 then refPad (refExt h mu) (ix3 b ⟨n, hn⟩ d) else 0

theorem under_eq (h : FVec Ideal S4x8192x6408 .f32) (mu : FVec Ideal S16x512 .f32) (b : Fin 4) (d : Fin 512) (n : ℕ) (hn : 1 ≤ n) :
    under h mu b d n = hist h mu b d n := by
  unfold under
  by_cases hl : n < 8208
  · rw [dif_pos hl, refPad_at, dif_neg (show ¬ n = 0 by omega), refExt_at]
    exact congrArg _ (show n - 1 + 1 = n by omega)
  · rw [dif_neg hl]
    unfold hist history
    rw [dif_neg (by omega), dif_neg (by omega)]

section Finite

variable (h : FVec Ideal S4x8192x6408 .f32) (mu : FVec Ideal S16x512 .f32)
  (hh : ∀ (b : Fin 4) (p : Fin 8192) (d : Fin 512), ∃ a : ℝ, h (ix3 b p ⟨d.val, Nat.lt_of_lt_of_le d.isLt (Nat.le_of_ble_eq_true rfl)⟩) = (a : EReal))
  (hm : ∀ (i : Fin 16) (d : Fin 512), ∃ a : ℝ, mu (ix2 i d) = (a : EReal))

include hh hm

theorem hist_real (b : Fin 4) (d : Fin 512) (q : ℕ) : ∃ a : ℝ, hist h mu b d q = (a : EReal) := by
  unfold hist history
  split_ifs
  · exact hm _ d
  · exact hh b _ d
  · exact ⟨0, rfl⟩

theorem under_real (b : Fin 4) (d : Fin 512) (q : ℕ) : ∃ a : ℝ, under h mu b d q = (a : EReal) := by
  by_cases hq : 1 ≤ q
  · rw [under_eq h mu b d q hq]
    exact hist_real h mu hh hm b d q
  · obtain rfl : q = 0 := by omega
    refine ⟨0, ?_⟩
    unfold under
    rw [dif_pos (by norm_num), refPad_at, dif_pos rfl]
    rfl

/-- One pooled row less the row itself. -/
theorem term_at (b : Fin 4) (p : Fin 8192) (k : Fin 512) (w : ℕ) (hw : w ≤ 16) (hk : w = 2 ^ (k.val / 128 + 1)) :
    refDiff (refSums (refPad (refExt h mu))) (refExt h mu) (ix3 b p k)
      = Ideal.div (back w (hist h mu b k) (p.val + 16)) (count w) - hist h mu b k (p.val + 16) := by
  rw [refDiff_at _ _ b p k w hw hk, refSums_at, refSums_at, refExt_at]
  refine congrArg₂ (· - ·) (congrArg (Ideal.div · _) ?_) (congrArg _ (show 15 + p.val + 1 = p.val + 16 by omega))
  have e : 16 + p.val - w + 1 = p.val + 16 + 1 - w := by omega
  show (∑ n ∈ Finset.range (16 + p.val + 1), under h mu b k n) - (∑ n ∈ Finset.range (16 + p.val - w + 1), under h mu b k n) = _
  rw [e, Nat.add_comm 16 p.val, running_sub _ (under_real h mu hh hm b k) w (p.val + 16) (by omega)]
  exact back_congr w _ _ _ (by omega) fun q hq => under_eq h mu b k q hq

/-- The reference at one token and one column. -/
theorem entry (pw : FVec Ideal S4x128x128 .f32) (ps : FVec Ideal S512 .f32) (b : Fin 4) (p : Fin 8192) (d : Fin 512) :
    refTerm h mu pw ps (ix3 b p d) = pooled h mu pw ps b p d := by
  have hl := d.isLt
  have hw : 2 ^ (d.val / 128 + 1) ≤ 16 := by
    have : d.val / 128 + 1 ≤ 4 := by omega
    exact (Nat.pow_le_pow_right (by norm_num) this).trans (by norm_num)
  unfold refTerm pooled mixed
  rw [refMix_at]
  refine congrArg (· * _) (Finset.sum_congr rfl fun c _ => congrArg (· * _) ?_)
  have hc := c.isLt
  exact term_at h mu hh hm b p _ _ hw (by
    show 2 ^ (d.val / 128 + 1) = 2 ^ ((d.val / 128 * 128 + c.val) / 128 + 1)
    rw [show (d.val / 128 * 128 + c.val) / 128 = d.val / 128 by omega])

end Finite

end Cert.PoolReferenceIdeal.Pure

end
-- ==== Proof.PoolPre.lean ====
/-
What the precondition says: every pooled row of the projection and of the memory is a real number.
-/
module
public import proofs.«01_k».proof.Proof.Gen.Pre_finite
public import proofs.«01_k».proof.Proof.Rows

@[expose] public section

set_option maxRecDepth 16384

noncomputable section

open Idealize.ShloMosaic Idealize.ShloMosaic.TcCoe Idealize.SL.Sem

namespace Cert.PoolPre

open Cert.Pre_finite Cert.Pre_finite.Gen

theorem and_one {a b : BitVec 1} (h : IntOp.andi a b = 1#1) : a = 1#1 ∧ b = 1#1 := by
  revert a b; decide

theorem foldl_and {ι : Type} (f : ι → BitVec 1) (l : List ι) (z : BitVec 1) (h : l.foldl (fun r n => IntOp.andi r (f n)) z = 1#1) :
    z = 1#1 ∧ ∀ n ∈ l, f n = 1#1 := by
  induction l generalizing z with
  | nil => exact ⟨h, fun n hn => absurd hn List.not_mem_nil⟩
  | cons a l ih =>
    obtain ⟨h1, h2⟩ := ih _ h
    obtain ⟨h3, h4⟩ := and_one h1
    exact ⟨h3, fun n hn => (List.mem_cons.mp hn).elim (fun e => e ▸ h4) (h2 n)⟩

/-- A conjunction over all entries that holds, holds at every entry. -/
theorem all_true {s : Shape} {axes : List (Fin s.rank)} (x : IVec s 1) (init : IVec S_ 1) (h : s.ReducesTo axes S_) (hu : 0 < S_.numel) (j : S_.Idx)
    (e : Host.reduce IntOp.andi x init h hu j = 1#1) (i : s.Idx) : x i = 1#1 := by
  have := (foldl_and _ _ _ e).2 (s.rowMajor i) (List.mem_filter.mpr ⟨List.mem_finRange _, decide_eq_true (funext fun a => a.elim0)⟩)
  rwa [Equiv.symm_apply_apply] at this

/-- Below infinity in magnitude is real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ a : ℝ, x = (a : EReal) := by
  have ht : FloatOps.ofBits (F := Ideal) .f32 0x7F800000#32 = (⊤ : EReal) := by
    show Ideal.ofBits .f32 0x7F800000#32 = ⊤
    simp [Ideal.ofBits, Ideal.ieee]
  rw [ht] at h
  induction x using EReal.rec with
  | bot => exfalso; revert h; simp [FloatOps.cmpf, FloatOps.hostAbsf, Ideal.cmp]
  | coe a => exact ⟨a, rfl⟩
  | top => exfalso; revert h; simp [FloatOps.cmpf, FloatOps.hostAbsf, Ideal.cmp]

theorem real (h : FVec Ideal S4x8192x6408 .f32) (mu : FVec Ideal S16x512 .f32) (pw : FVec Ideal S4x128x128 .f32) (ps : FVec Ideal S512 .f32)
    (e : fn (F := Ideal) h mu pw ps = fun _ => 1#1) :
    (∀ (b : Fin 4) (p : Fin 8192) (d : Fin 512), ∃ a : ℝ, h (ix3 b p ⟨d.val, by omega⟩) = (a : EReal))
    ∧ (∀ (i : Fin 16) (d : Fin 512), ∃ a : ℝ, mu (ix2 i d) = (a : EReal)) := by
  obtain ⟨h1, h2⟩ := and_one (congrFun e ix0)
  constructor
  · intro b p d
    have := all_true _ _ _ _ _ h1 (ix3 b p d)
    refine real_of_lt _ (Eq.trans ?_ this)
    pointwise
  · intro i d
    have := all_true _ _ _ _ _ h2 (ix2 i d)
    refine real_of_lt _ (Eq.trans ?_ this)
    pointwise

end Cert.PoolPre

end
-- ==== Proof.PoolClaim.lean ====
/-
The pooling claim: on finite pooled rows kernel and reference leave the same array, entry by entry the function `pooled`.
-/
module

public import proofs.«01_k».proof.Defs
public import proofs.«01_k».proof.Proof.PoolValue
public import proofs.«01_k».proof.Proof.PoolRef
public import proofs.«01_k».proof.Proof.PoolPre

@[expose] public section

set_option maxRecDepth 16384

noncomputable section

open Idealize.ShloMosaic Idealize.ShloMosaic.TcCoe Idealize.SL.Sem

namespace Cert.PoolClaim

open Cert.PoolReferenceIdeal Cert.PoolReferenceIdeal.Pure Cert.Pool

/-- The reference's array on finite rows, one entry at a time. -/
theorem ref_entry (h : FVec Ideal S4x8192x6408 .f32) (mu : FVec Ideal S16x512 .f32) (pw : FVec Ideal S4x128x128 .f32) (ps : FVec Ideal S512 .f32)
    (hh : ∀ (b : Fin 4) (p : Fin 8192) (d : Fin 512), ∃ a : ℝ, h (ix3 b p ⟨d.val, by omega⟩) = (a : EReal))
    (hm : ∀ (i : Fin 16) (d : Fin 512), ∃ a : ℝ, mu (ix2 i d) = (a : EReal)) (i : S4x8192x512.Idx) :
    refTerm h mu pw ps i = pooled h mu pw ps (i 0) (i 1) (i 2) := by
  idx_vars i
  exact entry h mu hh hm pw ps i0 i1 i2

/-- An entry depends on the arrays only. -/
theorem ref_congr {h h' : FVec Ideal S4x8192x6408 .f32} {mu mu' : FVec Ideal S16x512 .f32} {pw pw' : FVec Ideal S4x128x128 .f32}
    {ps ps' : FVec Ideal S512 .f32} (h0 : h = h') (h1 : mu = mu') (h2 : pw = pw') (h3 : ps = ps') : refTerm h mu pw ps = refTerm h' mu' pw' ps' := by
  subst h0 h1 h2 h3
  rfl

set_option maxHeartbeats 2000000 in
/-- Kernel and reference agree. -/
theorem algebraic : Cert.algebraic_PoolKernelIdeal_PoolReferenceIdeal_pre_finite := by
  pair_intro
  · run_from Cert.PoolKernelIdeal.Gen.run_main m g
  · run_from Cert.PoolReferenceIdeal.Value.run m' g'
    refine Eq.trans (b := refTerm (m' ((c.tc : Thread _ _).loc main_arg0)) (m' ((c.tc : Thread _ _).loc main_arg1))
      (m' ((c.tc : Thread _ _).loc main_arg2)) (m' ((c.tc : Thread _ _).loc main_arg3))) rfl ?_
    obtain ⟨h0, h1, h2, h3⟩ := hagree c
    obtain ⟨hh, hm⟩ := Cert.PoolPre.real _ _ _ _ (hpre c)
    exact (ref_congr h0 h1 h2 h3).trans
      ((funext fun i => ref_entry _ _ _ _ hh hm i).trans (Cert.PoolTie.final m c).symm)

end Cert.PoolClaim

end
-- ==== Proof.KeysRows.lean ====
/-
One row of turned keys: two heads of 64, each rotated in halves.
-/
module
public import proofs.«01_k».proof.Proof.Rows

@[expose] public section

set_option maxRecDepth 16384

noncomputable section

open Idealize.ShloMosaic Idealize.ShloMosaic.TcCoe Idealize.SL.Sem

namespace Cert.Keys

/-- One column of a row turned by the angles whose cosines and sines are given. -/
def turned (x : Fin 128 → EReal) (C S : Fin 32 → EReal) (d : Fin 128) : EReal :=
  if h : d.val % 64 < 32 then x d * C ⟨d.val % 64, h⟩ - x ⟨d.val + 32, by omega⟩ * S ⟨d.val % 64, h⟩
  else x d * C ⟨d.val % 64 - 32, by omega⟩ + x ⟨d.val - 32, by omega⟩ * S ⟨d.val % 64 - 32, by omega⟩

/-- The same with the sign moved into the table of sines: the other half is fetched, and added. -/
theorem turned_of (x : Fin 128 → EReal) (C S : Fin 32 → EReal) (d : Fin 128) (a c s : EReal)
    (ha : a = if h : d.val % 64 < 32 then x ⟨d.val + 32, by omega⟩ else x ⟨d.val - 32, by omega⟩)
    (hc : c = C ⟨d.val % 32, by omega⟩)
    (hs : s = if h : d.val % 64 < 32 then -S ⟨d.val % 64, h⟩ else S ⟨d.val % 64 - 32, by omega⟩) :
    x d * c + a * s = turned x C S d := by
  subst ha hc hs
  unfold turned
  by_cases h : d.val % 64 < 32
  · rw [dif_pos h, dif_pos h, dif_pos h, mul_neg, ← sub_eq_add_neg]
    exact congrArg (x d * · - _) (congrArg C (Fin.ext (show d.val % 32 = d.val % 64 by omega)))
  · rw [dif_neg h, dif_neg h, dif_neg h]
    exact congrArg (x d * · + _) (congrArg C (Fin.ext (show d.val % 32 = d.val % 64 - 32 by omega)))

end Cert.Keys

end
-- ==== Proof.KeysBlocks.lean ====
/-
What the attention kernel's key and table windows hold at each grid point, in terms of the argument arrays.
-/
module
public import proofs.«01_k».proof.Proof.Gen.KeysKernelIdeal.Value
public import proofs.«01_k».proof.Proof.KeysRows
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KeysTie

open Cert.KeysKernelIdeal Cert.KeysKernelIdeal.Gen Cert.Keys

variable (m : (ℓ : Loc nD τ sig) → Buf (Elt Ideal) ℓ)

/-- Where each window's block sits at grid point `t`. -/
theorem idx : ∀ t : Fin cfg0.N, win0_2.index t = ![0, t.val, 24] ∧ win0_4.index t = ![t.val, 0] ∧ win0_5.index t = ![t.val, 0]
    ∧ win0_7.index t = ![0, 0, 0] ∧ t.val < 64 :=
  (by decide +kernel : ∀ t : Fin grid0.N, _)

/-- The grid has 64 points. -/
theorem lt64 (t : Fin cfg0.N) : t.val < 64 := (idx t).2.2.2.2

/-- The position of the tile's row `y` in its sequence. -/
def ts (t : Fin cfg0.N) (y : Fin 128) : Fin 8192 := ⟨t.val * 128 + y.val, by have := lt64 t; omega⟩

/-- The packed projection, its columns in the kernels' order, padded by zeros. -/
def pack (h : FVec Ideal S4x8192x6408 .f32) : FVec Ideal S4x8192x6528 .bf16 :=
  concatenate S4x8192x6528 2
    [⟨S4x8192x3072, truncf .bf16 ((extractStridedSlice S4x8192x3072 ![0, 0, 3336] · slices_S4x8192x6408_S4x8192x3072_0_0_3336) h) bitsLt_bf16_f32⟩,
     ⟨S4x8192x1536, truncf .bf16 ((extractStridedSlice S4x8192x1536 ![0, 0, 512] · slices_S4x8192x6408_S4x8192x1536_0_0_512) h) bitsLt_bf16_f32⟩,
     ⟨S4x8192x512, truncf .bf16 ((extractStridedSlice S4x8192x512 ![0, 0, 0] · slices_S4x8192x6408_S4x8192x512_0_0_0) h) bitsLt_bf16_f32⟩,
     ⟨S4x8192x512, truncf .bf16 ((extractStridedSlice S4x8192x512 ![0, 0, 2048] · slices_S4x8192x6408_S4x8192x512_0_0_2048) h) bitsLt_bf16_f32⟩,
     ⟨S4x8192x512, truncf .bf16 ((extractStridedSlice S4x8192x512 ![0, 0, 2568] · slices_S4x8192x6408_S4x8192x512_0_0_2568) h) bitsLt_bf16_f32⟩,
     ⟨S4x8192x256, truncf .bf16 ((extractStridedSlice S4x8192x256 ![0, 0, 3080] · slices_S4x8192x6408_S4x8192x256_0_0_3080) h) bitsLt_bf16_f32⟩,
     ⟨S4x8192x8, truncf .bf16 ((extractStridedSlice S4x8192x8 ![0, 0, 2560] · slices_S4x8192x6408_S4x8192x8_0_0_2560) h) bitsLt_bf16_f32⟩,
     ⟨S4x8192x120, broadcastInDim S4x8192x120 ![] bcast_S_S4x8192x120 (constant S_ .bf16 0x0000#16)⟩]
    concatenates_S4x8192x3072_S4x8192x1536_S4x8192x512_S4x8192x512_S4x8192x512_S4x8192x256_S4x8192x8_S4x8192x120_S4x8192x6528_d2

/-- The angles of the prompt's positions. -/
def angles : FVec Ideal S8192x32 .f32 :=
  (mulf (broadcastInDim S8192x32 ![0, 1] bcast_S8192x1_S8192x32_0_1 (broadcastInDim S8192x1 ![0] bcast_S8192_S8192x1_0 (sitofp .f32 (addi (broadcastInDim S8192 ![] bcast_S_S8192 (constantI S_ 32 16#32)) (iotaInDim S8192 32 0))))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- Four copies of the cosines. -/
def cosTable (C : FVec Ideal S8192x32 .f32) : FVec Ideal S8192x128 .f32 :=
  shapeCast S8192x128 (broadcastInDim S1x8192x4x32 ![0, 1, 2, 3] bcast_S1x8192x1x32_S1x8192x4x32_0_1_2_3
    (shapeCast S1x8192x1x32 C shapeCasts_S8192x32_S1x8192x1x32)) shapeCasts_S1x8192x4x32_S8192x128

/-- Two copies of the negated sines and the sines. -/
def sinTable (S : FVec Ideal S8192x32 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, Host.negf S⟩, ⟨S8192x32, S⟩] concatenates_S8192x32_S8192x32_S8192x64_d1)
      shapeCasts_S8192x64_S1x8192x1x64)) shapeCasts_S1x8192x2x64_S8192x128

/-- The packed rows the kernel is given. -/
theorem v49 (c : Dev nD) :
    (show FVec Ideal S4x8192x6528 .bf16 from V m c main_v49) = pack (m ((c : Thread nD τ).loc main_arg0)) := by
  rfl

/-- The table of cosines the kernel is given. -/
theorem v28 (c : Dev nD) : (show FVec Ideal S8192x128 .f32 from V m c main_v28) = cosTable (Host.cos angles) := by
  rfl

/-- The table of sines the kernel is given. -/
theorem v33 (c : Dev nD) : (show FVec Ideal S8192x128 .f32 from V m c main_v33) = sinTable (Host.sin angles) := by
  rfl

set_option maxHeartbeats 1600000 in
/-- The key and value columns in the packed array. -/
theorem pack_keys (h : FVec Ideal S4x8192x6408 .f32) (b : Fin 4) (s : Fin 8192) (d : Fin 256) :
    pack h (ix3 b s ⟨6144 + d, by omega⟩) = h (ix3 b s ⟨3080 + d, by omega⟩) := by
  unfold pack
  pointwise
  rw [dif_neg (by omega), dif_neg (by omega), dif_neg (by omega), dif_neg (by omega), dif_neg (by omega), dif_pos (by omega)]
  exact congrArg h (congrArg (ix3 b s) (Fin.ext (by first | omega | (simp only []; omega))))

set_option maxHeartbeats 1600000 in
/-- An entry of the table of cosines. -/
theorem cosTable_at (C : FVec Ideal S8192x32 .f32) (s : Fin 8192) (d : Fin 128) :
    cosTable C (ix2 s d) = C (ix2 s ⟨d.val % 32, by omega⟩) := by
  pointwise [cosTable]

set_option maxHeartbeats 1600000 in
/-- An entry of the table of sines. -/
theorem sinTable_at (S : FVec Ideal S8192x32 .f32) (s : Fin 8192) (d : Fin 128) :
    sinTable S (ix2 s d)
      = if h : d.val % 64 < 32 then -S (ix2 s ⟨d.val % 64, h⟩) else S (ix2 s ⟨d.val % 64 - 32, by omega⟩) := by
  pointwise [sinTable]

set_option maxHeartbeats 1600000 in
/-- The tile's keys. -/
theorem rows (c : Dev nD) (t : Fin cfg0.N) (b : Fin 4) (y : Fin 128) (d : Fin 256) :
    X0_2 m c t (ix3 b y d) = m ((c : Thread nD τ).loc main_arg0) (ix3 b (ts t y) ⟨3080 + d, by omega⟩) := by
  unfold X0_2 Pipeline.Window.fill
  rw [dif_pos (moved0_2 t _)]
  unfold Gen.iblk
  refine Eq.trans (congrArg (V m c main_v49) ?_) ((congrFun (v49 m c) (ix3 b (ts t y) ⟨6144 + d, by omega⟩)).trans (pack_keys _ _ _ d))
  unfold ts
  blk_ext [idx t]

set_option maxHeartbeats 1600000 in
/-- The tile's cosines. -/
theorem cosines (c : Dev nD) (t : Fin cfg0.N) (y d : Fin 128) :
    iblk m c 4 t (ix2 y d) = Host.cos angles (ix2 (ts t y) ⟨d.val % 32, by omega⟩) := by
  unfold Gen.iblk
  refine Eq.trans (congrArg (V m c main_v28) ?_) ((congrFun (v28 m c) (ix2 (ts t y) d)).trans (cosTable_at _ _ d))
  unfold ts
  blk_ext [idx t]

set_option maxHeartbeats 1600000 in
/-- The tile's sines. -/
theorem sines (c : Dev nD) (t : Fin cfg0.N) (y d : Fin 128) :
    iblk m c 5 t (ix2 y d) = if h : d.val % 64 < 32 then -Host.sin angles (ix2 (ts t y) ⟨d.val % 64, h⟩)
      else Host.sin angles (ix2 (ts t y) ⟨d.val % 64 - 32, by omega⟩) := by
  unfold Gen.iblk
  refine Eq.trans (congrArg (V m c main_v33) ?_) ((congrFun (v33 m c) (ix2 (ts t y) d)).trans (sinTable_at _ _ d))
  unfold ts
  blk_ext [idx t]

end Cert.KeysTie

end
-- ==== Proof.KeysPay.lean ====
/-
What the attention kernel stores as turned keys, entry by entry.
-/
module
public import proofs.«01_k».proof.Proof.Gen.KeysKernelIdeal.Skeleton
public import proofs.«01_k».proof.Proof.KeysRows

@[expose] public section

set_option maxRecDepth 16384

noncomputable section

open Idealize.ShloMosaic Idealize.ShloMosaic.TcCoe Idealize.SL.Sem

namespace Cert.KeysTie

open Cert.KeysKernelIdeal Cert.KeysKernelIdeal.Gen Cert.Keys

/-- A lane is in the first half of its head. -/
theorem half : ∀ d : Fin 128, IntOp.cmpi .slt (IntOp.andi (BitVec.ofNat 32 d.val) 63#32) 32#32 = BitVec.ofBool (decide (d.val % 64 < 32)) := by
  decide

/-- A choice by a decided condition. -/
theorem chosen (p : Prop) [Decidable p] (a b : EReal) : Scalar.select (BitVec.ofBool (decide p)) a b = if p then a else b := by
  by_cases h : p
  · rw [decide_eq_true h, if_pos h]; rfl
  · rw [decide_eq_false h, if_neg h]; rfl

/-- The other half of a head, fetched by two rotations. -/
theorem fetched (x : Fin 256 → EReal) (d : Fin 128) :
    Scalar.select (IntOp.cmpi CmpIPredicate.slt (IntOp.andi (BitVec.ofNat 32 d.val) 63#32) 32#32)
        (x ⟨(d.val + 128 - 96) % 128, by omega⟩) (x ⟨(d.val + 128 - 32) % 128, by omega⟩)
      = if h : d.val % 64 < 32 then x ⟨d.val + 32, by omega⟩ else x ⟨d.val - 32, by omega⟩ := by
  rw [half, chosen]
  by_cases h : d.val % 64 < 32
  · rw [if_pos h, dif_pos h]
    exact congrArg x (Fin.ext (show (d.val + 128 - 96) % 128 = d.val + 32 by omega))
  · rw [if_neg h, dif_neg h]
    exact congrArg x (Fin.ext (show (d.val + 128 - 32) % 128 = d.val - 32 by omega))

/-- The stored row, from the key row and the two tables' rows. -/
abbrev stored (v : Vec Ideal S1x128x256 .bf16) (C S : Vec Ideal S128x128 .f32) (y d : Fin 128) : EReal :=
  v (ix3 0 y ⟨d.val, by omega⟩) * C (ix2 y d)
    + (if h : d.val % 64 < 32 then v (ix3 0 y ⟨d.val + 32, by omega⟩) else v (ix3 0 y ⟨d.val - 32, by omega⟩)) * S (ix2 y d)

/-- A sequence's turned keys. -/
theorem pay89_at (C S : Vec Ideal S128x128 .f32) (v : Vec Ideal S1x128x256 .bf16) (y d : Fin 128) :
    k0_pay89 (F := Ideal) (k0_pay83 C) (k0_pay84 S) (k0_pay87 (F := Ideal) v) (iota .tc S128x128 32 [1] iota_S128x128_d1_w32) (ix3 0 y d) = stored v C S y d := by
  pointwise [k0_pay89, k0_pay88, k0_pay87, k0_pay86, k0_pay83, k0_pay84]
  exact congrArg (fun z => v (ix3 0 y ⟨d.val, by omega⟩) * C (ix2 y d) + z * S (ix2 y d)) (fetched (fun k => v (ix3 0 y k)) d)

/-- A sequence's turned keys. -/
theorem pay116_at (C S : Vec Ideal S128x128 .f32) (v : Vec Ideal S1x128x256 .bf16) (y d : Fin 128) :
    k0_pay116 (F := Ideal) (k0_pay83 C) (k0_pay84 S) v (ix3 0 y d) = stored v C S y d := by
  pointwise [k0_pay116, k0_pay115, k0_pay114, k0_pay83, k0_pay84]
  exact congrArg (fun z => v (ix3 0 y ⟨d.val, by omega⟩) * C (ix2 y d) + z * S (ix2 y d)) (fetched (fun k => v (ix3 0 y k)) d)

/-- A sequence's turned keys. -/
theorem pay142_at (C S : Vec Ideal S128x128 .f32) (v : Vec Ideal S1x128x256 .bf16) (y d : Fin 128) :
    k0_pay142 (F := Ideal) (k0_pay83 C) (k0_pay84 S) v (ix3 0 y d) = stored v C S y d := by
  pointwise [k0_pay142, k0_pay141, k0_pay140, k0_pay83, k0_pay84]
  exact congrArg (fun z => v (ix3 0 y ⟨d.val, by omega⟩) * C (ix2 y d) + z * S (ix2 y d)) (fetched (fun k => v (ix3 0 y k)) d)

/-- A sequence's turned keys. -/
theorem pay169_at (C S : Vec Ideal S128x128 .f32) (v : Vec Ideal S1x128x256 .bf16) (y d : Fin 128) :
    k0_pay169 (F := Ideal) (k0_pay83 C) (k0_pay84 S) v (ix3 0 y d) = stored v C S y d := by
  pointwise [k0_pay169, k0_pay168, k0_pay167, k0_pay83, k0_pay84]
  exact congrArg (fun z => v (ix3 0 y ⟨d.val, by omega⟩) * C (ix2 y d) + z * S (ix2 y d)) (fetched (fun k => v (ix3 0 y k)) d)

end Cert.KeysTie

end
-- ==== Proof.KeysValue.lean ====
/-
The attention kernel's second result: the last tile's turned keys.
-/
module
public import proofs.«01_k».proof.Proof.KeysBlocks
public import proofs.«01_k».proof.Proof.KeysPay

@[expose] public section

set_option maxRecDepth 16384

noncomputable section

open Idealize.ShloMosaic Idealize.ShloMosaic.TcCoe Idealize.SL.Sem
open Idealize.ShloMosaic.Pipeline (Dat)

namespace Cert.KeysTie

open Cert.KeysKernelIdeal Cert.KeysKernelIdeal.Gen Cert.Keys

variable (m : (ℓ : Loc nD τ sig) → Buf (Elt Ideal) ℓ)

/-- A turned key of the prompt, over the argument arrays. -/
def keyOf (c : Dev nD) (b : Fin 4) (s : Fin 8192) (d : Fin 128) : EReal :=
  turned (fun k => m ((c : Thread nD τ).loc main_arg0) (ix3 b s ⟨3080 + k.val, Nat.lt_of_lt_of_le (Nat.add_lt_add_left k.isLt 3080) (Nat.le_of_ble_eq_true rfl)⟩))
    (fun j => Host.cos angles (ix2 s j)) (fun j => Host.sin angles (ix2 s j)) d

/-- What a tile stores for one sequence is its turned keys. -/
theorem stored_key (c : Dev nD) (t : Fin cfg0.N) (b : Fin 4) (v : Vec Ideal S1x128x256 .bf16)
    (hv : ∀ (y : Fin 128) (k : Fin 256), v (ix3 0 y k) = X0_2 m c t (ix3 b y k)) (y d : Fin 128) :
    stored v (iblk m c 4 t) (iblk m c 5 t) y d = keyOf m c b (ts t y) d := by
  have hx : ∀ (k : Fin 256), v (ix3 0 y k) = m ((c : Thread nD τ).loc main_arg0) (ix3 b (ts t y) ⟨3080 + k.val, by omega⟩) :=
    fun k => (hv y k).trans (rows m c t b y k)
  unfold stored keyOf
  rw [hx ⟨d.val, by omega⟩]
  refine turned_of (fun k : Fin 128 => m ((c : Thread nD τ).loc main_arg0) (ix3 b (ts t y) ⟨3080 + k.val, by omega⟩)) (fun j => Host.cos angles (ix2 (ts t y) j)) (fun j => Host.sin angles (ix2 (ts t y) j)) d _ _ _ ?_ (cosines m c t y d) (sines m c t y d)
  by_cases h : d.val % 64 < 32
  · rw [dif_pos h, dif_pos h]
    exact hx ⟨d.val + 32, by omega⟩
  · rw [dif_neg h, dif_neg h]
    exact hx ⟨d.val - 32, by omega⟩

/-- A position in one sequence's block of keys. -/
theorem seq_idx (off : ℕ) (hb : ∀ a, (![off, 0, 0] : Fin 3 → ℕ) a + (![1, 128, 256] : Fin 3 → ℕ) a ≤ S4x128x256.size a)
    (y : Fin 128) (k : Fin 256) (b : Fin 4) (h : b.val = off) :
    (Rect.unit (s := S4x128x256) ![off, 0, 0] ![1, 128, 256] hb).idx (ix3 0 y k) = ix3 b y k := by
  funext a
  fin_cases a
  · exact Fin.ext (show off + 1 * 0 = b.val by omega)
  · exact Fin.ext (show 0 + 1 * y.val = y.val by omega)
  · exact Fin.ext (show 0 + 1 * k.val = k.val by omega)

set_option maxHeartbeats 4000000 in
/-- The stored block at a later tile. -/
theorem out_keys (c : Dev nD) (t : Fin cfg0.N) (ht : ¬t.val % 64 = 0) (b : Fin 4) (y d : Fin 128) :
    (outsAt0 m c t.val t.isLt).2.1 (ix3 b y d) = keyOf m c b (ts t y) d := by
  rw [outsAt0_B m c t ht (by omega)]
  dsimp only
  frame_open
  frame_out
  canon_tiles x h using View.cover_of_tiledBy _ ![1, 128, 128] (by sl_kernel_rfl) _
  all_goals
    idx_vars x
    obtain rfl : x0 = 0 := Fin.ext (by omega)
    obtain rfl : y = x1 := Fin.ext h1
    obtain rfl : d = x2 := Fin.ext h2
  · exact (pay169_at _ _ _ y d).trans (stored_key m c t b _ (fun z k => congrArg (X0_2 m c t) (seq_idx 3 inb_S4x128x256_S1x128x256_3_0_0 z k b (by omega))) y d)
  · exact (pay142_at _ _ _ y d).trans (stored_key m c t b _ (fun z k => congrArg (X0_2 m c t) (seq_idx 2 inb_S4x128x256_S1x128x256_2_0_0 z k b (by omega))) y d)
  · exact (pay116_at _ _ _ y d).trans (stored_key m c t b _ (fun z k => congrArg (X0_2 m c t) (seq_idx 1 inb_S4x128x256_S1x128x256_1_0_0 z k b (by omega))) y d)
  · exact (pay89_at _ _ _ y d).trans (stored_key m c t b _ (fun z k => congrArg (X0_2 m c t) (seq_idx 0 inb_S4x128x256_S1x128x256_0_0_0 z k b (by omega))) y d)

/-- The kernel's second result array. -/
def keysOut (c : Dev nD) : FVec Ideal S4x128x128 .f32 := fun i =>
  keyOf m c (i 0) ⟨8064 + (i 1 : ℕ), by have : (i 1 : ℕ) < 128 := (i 1).isLt; omega⟩ (i 2)

set_option maxHeartbeats 1600000 in
/-- The kernel's second result array, entry by entry. -/
theorem final (c : Dev nD) : (dats m 0 c).arrAt 7 cfg0.N = keysOut m c := by
  refine (dats m 0 c).arrAt_eq_of_covers 7 _ (by decide +kernel) fun t hf y => ?_
  have hl : t.val % 64 = 63 := (flush0_7 t).mp hf
  have h63 : t.val = 63 := by have := lt64 t; omega
  blk_simp
  rw [after0_7]
  idx_vars y
  refine (out_keys m c t (by omega) y0 y1 y2).trans ?_
  have e : (((View.whole main_v50_1).slice (win0_7.rect t)).emb (ix3 y0 y1 y2)) = ix3 y0 y1 y2 := by
    blk_ext [idx t]
  refine Eq.trans ?_ (congrArg (keysOut m c) e).symm
  have es : ts t y1 = ⟨8064 + y1.val, by omega⟩ := Fin.ext (show t.val * 128 + y1.val = 8064 + y1.val by omega)
  rw [es]
  rfl

end Cert.KeysTie

end
-- ==== Proof.KeysRef.lean ====
/-
The turned keys' reference, read at one row and one column.
-/
module
public import proofs.«01_k».proof.Proof.Gen.KeysReferenceIdeal.Run
public import proofs.«01_k».proof.Proof.KeysRows

@[expose] public section

set_option maxRecDepth 16384

noncomputable section

open Idealize.ShloMosaic Idealize.ShloMosaic.TcCoe Idealize.SL.Sem

namespace Cert.KeysReferenceIdeal.Pure

open Cert.KeysReferenceIdeal Cert.KeysReferenceIdeal.Gen Cert.KeysReferenceIdeal.Value Cert.Keys

/-- The angles of the prompt's positions. -/
def angles : FVec Ideal S8192x32 .f32 :=
  (mulf (broadcastInDim S8192x32 ![0, 1] bcast_S8192x1_S8192x32_0_1 (broadcastInDim S8192x1 ![0] bcast_S8192_S8192x1_0 (sitofp .f32 (addi (broadcastInDim S8192 ![] bcast_S_S8192 (constantI S_ 32 16#32)) (iotaInDim S8192 32 0))))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The turned heads. -/
def refTurn (X : FVec Ideal S4x8192x128 .f32) (C S : FVec Ideal S8192x32 .f32) : FVec Ideal S4x8192x2x64 .f32 :=
  (concatenate S4x8192x2x64 3 [⟨S4x8192x2x32, (subf (mulf (extractStridedSlice S4x8192x2x32 ![0, 0, 0, 0] (shapeCast S4x8192x2x64 X shapeCasts_S4x8192x128_S4x8192x2x64) slices_S4x8192x2x64_S4x8192x2x32_0_0_0_0) (broadcastInDim S4x8192x2x32 ![0, 1, 2, 3] bcast_S1x8192x1x32_S4x8192x2x32_0_1_2_3 (broadcastInDim S1x8192x1x32 ![1, 3] bcast_S8192x32_S1x8192x1x32_1_3 C))) (mulf (extractStridedSlice S4x8192x2x32 ![0, 0, 0, 32] (shapeCast S4x8192x2x64 X shapeCasts_S4x8192x128_S4x8192x2x64) slices_S4x8192x2x64_S4x8192x2x32_0_0_0_32) (broadcastInDim S4x8192x2x32 ![0, 1, 2, 3] bcast_S1x8192x1x32_S4x8192x2x32_0_1_2_3 (broadcastInDim S1x8192x1x32 ![1, 3] bcast_S8192x32_S1x8192x1x32_1_3 S))))⟩, ⟨S4x8192x2x32, (addf (mulf (extractStridedSlice S4x8192x2x32 ![0, 0, 0, 32] (shapeCast S4x8192x2x64 X shapeCasts_S4x8192x128_S4x8192x2x64) slices_S4x8192x2x64_S4x8192x2x32_0_0_0_32) (broadcastInDim S4x8192x2x32 ![0, 1, 2, 3] bcast_S1x8192x1x32_S4x8192x2x32_0_1_2_3 (broadcastInDim S1x8192x1x32 ![1, 3] bcast_S8192x32_S1x8192x1x32_1_3 C))) (mulf (extractStridedSlice S4x8192x2x32 ![0, 0, 0, 0] (shapeCast S4x8192x2x64 X shapeCasts_S4x8192x128_S4x8192x2x64) slices_S4x8192x2x64_S4x8192x2x32_0_0_0_0) (broadcastInDim S4x8192x2x32 ![0, 1, 2, 3] bcast_S1x8192x1x32_S4x8192x2x32_0_1_2_3 (broadcastInDim S1x8192x1x32 ![1, 3] bcast_S8192x32_S1x8192x1x32_1_3 S))))⟩] concatenates_S4x8192x2x32_S4x8192x2x32_S4x8192x2x64_d3)

/-- The last rows of the meta tokens' keys and the turned ones. -/
def refLast (X : FVec Ideal S4x8192x128 .f32) (km : FVec Ideal S16x128 .f32) (C S : FVec Ideal S8192x32 .f32) : FVec Ideal S4x128x128 .f32 :=
  shapeCast S4x128x128 (extractStridedSlice S4x128x2x64 ![0, 8080, 0, 0] (concatenate S4x8208x2x64 1 [⟨S4x16x2x64, (broadcastInDim S4x16x2x64 ![0, 1, 2, 3] bcast_S1x16x2x64_S4x16x2x64_0_1_2_3 (shapeCast S1x16x2x64 km shapeCasts_S16x128_S1x16x2x64))⟩, ⟨S4x8192x2x64, (refTurn X C S)⟩] concatenates_S4x16x2x64_S4x8192x2x64_S4x8208x2x64_d1) slices_S4x8208x2x64_S4x128x2x64_0_8080_0_0) shapeCasts_S4x128x2x64_S4x128x128

/-- The key columns. -/
def refKeys (h : FVec Ideal S4x8192x6408 .f32) : FVec Ideal S4x8192x128 .f32 :=
  (extractStridedSlice S4x8192x128 ![0, 0, 3080] h slices_S4x8192x6408_S4x8192x128_0_0_3080)

/-- The whole reference. -/
def refTerm (h : FVec Ideal S4x8192x6408 .f32) (km : FVec Ideal S16x128 .f32) : FVec Ideal S4x128x128 .f32 :=
  refLast (refKeys h) km (Host.cos angles) (Host.sin angles)

set_option maxHeartbeats 1600000 in
/-- A turned head at one position. -/
theorem refTurn_at (X : FVec Ideal S4x8192x128 .f32) (C S : FVec Ideal S8192x32 .f32) (b : Fin 4) (s : Fin 8192) (g : Fin 2) (e : Fin 64) :
    refTurn X C S (ix4 b s g e)
      = turned (fun d => X (ix3 b s d)) (fun j => C (ix2 s j)) (fun j => S (ix2 s j)) ⟨g.val * 64 + e.val, by omega⟩ := by
  pointwise [refTurn]
  unfold turned
  by_cases h : e.val < 32
  · rw [dif_pos h, dif_pos (show (g.val * 64 + e.val) % 64 < 32 by omega)]
    refine congrArg₂ (fun p q : EReal => p - q) (congrArg₂ (fun p q : EReal => p * q) rfl ?_) (congrArg₂ (fun p q : EReal => p * q) ?_ ?_)
    · exact congrArg (fun z => C (ix2 s z)) (Fin.ext (show e.val = (g.val * 64 + e.val) % 64 by omega))
    · exact congrArg (fun z => X (ix3 b s z)) (Fin.ext (show g.val * 64 + (32 + e.val) = g.val * 64 + e.val + 32 by omega))
    · exact congrArg (fun z => S (ix2 s z)) (Fin.ext (show e.val = (g.val * 64 + e.val) % 64 by omega))
  · rw [dif_neg h, dif_neg (show ¬(g.val * 64 + e.val) % 64 < 32 by omega)]
    refine congrArg₂ (fun p q : EReal => p + q) (congrArg₂ (fun p q : EReal => p * q) ?_ ?_) (congrArg₂ (fun p q : EReal => p * q) ?_ ?_)
    · exact congrArg (fun z => X (ix3 b s z)) (Fin.ext (show g.val * 64 + (32 + (e.val - 32)) = g.val * 64 + e.val by omega))
    · exact congrArg (fun z => C (ix2 s z)) (Fin.ext (show e.val - 32 = (g.val * 64 + e.val) % 64 - 32 by omega))
    · exact congrArg (fun z => X (ix3 b s z)) (Fin.ext (show g.val * 64 + (e.val - 32) = g.val * 64 + e.val - 32 by omega))
    · exact congrArg (fun z => S (ix2 s z)) (Fin.ext (show e.val - 32 = (g.val * 64 + e.val) % 64 - 32 by omega))

/-- A row of the last window. -/
theorem refLast_at (X : FVec Ideal S4x8192x128 .f32) (km : FVec Ideal S16x128 .f32) (C S : FVec Ideal S8192x32 .f32) (b : Fin 4) (y d : Fin 128) :
    refLast X km C S (ix3 b y d)
      = turned (fun d => X (ix3 b ⟨8064 + y.val, by omega⟩ d)) (fun j => C (ix2 ⟨8064 + y.val, by omega⟩ j)) (fun j => S (ix2 ⟨8064 + y.val, by omega⟩ j)) d := by
  pointwise [refLast]
  rw [dif_neg (by omega), refTurn_at]
  have e1 : (⟨8080 + y.val - 16, by omega⟩ : Fin 8192) = ⟨8064 + y.val, by omega⟩ := Fin.ext (show 8080 + y.val - 16 = 8064 + y.val by omega)
  have e2 : (⟨d.val / 64 * 64 + d.val % 64, by omega⟩ : Fin 128) = d := Fin.ext (show d.val / 64 * 64 + d.val % 64 = d.val by omega)
  exact (congrArg (fun z => turned _ _ _ z) e2).trans (congrArg (fun w => turned (fun d => X (ix3 b w d)) (fun j => C (ix2 w j)) (fun j => S (ix2 w j)) d) e1)

/-- The key columns at one position. -/
theorem refKeys_at (h : FVec Ideal S4x8192x6408 .f32) (b : Fin 4) (s : Fin 8192) (d : Fin 128) :
    refKeys h (ix3 b s d) = h (ix3 b s ⟨3080 + d.val, by omega⟩) := by
  pointwise [refKeys]

/-- The reference's result, one entry at a time. -/
theorem entry (h : FVec Ideal S4x8192x6408 .f32) (km : FVec Ideal S16x128 .f32) (b : Fin 4) (y d : Fin 128) :
    refTerm h km (ix3 b y d)
      = turned (fun d => h (ix3 b ⟨8064 + y.val, by omega⟩ ⟨3080 + d.val, by omega⟩)) (fun j => Host.cos angles (ix2 ⟨8064 + y.val, by omega⟩ j))
          (fun j => Host.sin angles (ix2 ⟨8064 + y.val, by omega⟩ j)) d := by
  refine (refLast_at _ _ _ _ b y d).trans ?_
  exact congrArg (fun z => turned z _ _ d) (funext fun k => refKeys_at h b _ k)

end Cert.KeysReferenceIdeal.Pure

end
-- ==== Proof.KeysClaim.lean ====
/-
The keys' claim: kernel and reference leave the same array of turned keys.
-/
module

public import proofs.«01_k».proof.Defs
public import proofs.«01_k».proof.Proof.KeysValue
public import proofs.«01_k».proof.Proof.KeysRef

@[expose] public section

set_option maxRecDepth 16384

noncomputable section

open Idealize.ShloMosaic Idealize.ShloMosaic.TcCoe Idealize.SL.Sem

namespace Cert.KeysClaim

open Cert.KeysReferenceIdeal Cert.KeysReferenceIdeal.Pure Cert.Keys

/-- Both sides take the cosines and sines of the same angles. -/
theorem same_angles : Cert.KeysTie.angles = Cert.KeysReferenceIdeal.Pure.angles := rfl

/-- An entry depends on the arrays only. -/
theorem ref_congr {h h' : FVec Ideal S4x8192x6408 .f32} {km km' : FVec Ideal S16x128 .f32} (h0 : h = h') (h1 : km = km') :
    refTerm h km = refTerm h' km' := by
  subst h0 h1
  rfl

/-- The reference's array at the kernel's arguments is the kernel's. -/
theorem ref_entry (m : (ℓ : Loc Cert.KeysKernelIdeal.nD Cert.KeysKernelIdeal.τ Cert.KeysKernelIdeal.sig) → Buf (Elt Ideal) ℓ)
    (c : Dev Cert.KeysKernelIdeal.nD) (km : FVec Ideal S16x128 .f32) (i : S4x128x128.Idx) :
    refTerm (m ((c.tc : Thread _ _).loc Cert.KeysKernelIdeal.main_arg0)) km i = Cert.KeysTie.keysOut m c i := by
  idx_vars i
  exact (entry _ _ i0 i1 i2).trans rfl

set_option maxHeartbeats 2000000 in
/-- Kernel and reference agree. -/
theorem algebraic : Cert.algebraic_KeysKernelIdeal_KeysReferenceIdeal := by
  pair_intro
  · run_from Cert.KeysKernelIdeal.Gen.run_main m g
  · run_from Cert.KeysReferenceIdeal.Value.run m' g'
    refine Eq.trans (b := refTerm (m' ((c.tc : Thread _ _).loc main_arg0)) (m' ((c.tc : Thread _ _).loc main_arg1))) rfl ?_
    obtain ⟨h0, h1, _⟩ := hagree c
    exact (ref_congr h0 h1).trans ((funext fun i => ref_entry m c _ i).trans (Cert.KeysTie.final m c).symm)

end Cert.KeysClaim

end
-- ==== Proof.lean ====
/- The claims about one layer's calls on the prompt, put together. -/
module

public import proofs.«01_k».proof.Proof.Gen.SwaKernelIdeal.Value
public import proofs.«01_k».proof.Proof.Gen.MlpKernelIdeal.Value
public import proofs.«01_k».proof.Proof.Gen.SwaReferenceIdeal
public import proofs.«01_k».proof.Proof.Gen.SwaReferenceIdeal.Run
public import proofs.«01_k».proof.Proof.Gen.MlpReferenceIdeal.Run
public import proofs.«01_k».proof.Proof.Gen.InKernelIdeal.Value
public import proofs.«01_k».proof.Proof.Gen.InReferenceIdeal.Run
public import proofs.«01_k».proof.Defs
public import proofs.«01_k».proof.Proof.Gen.SwaKernel
public import proofs.«01_k».proof.Proof.Gen.SwaKernel.Skeleton
public import proofs.«01_k».proof.Proof.Gen.SwaKernel.Launch
public import proofs.«01_k».proof.Proof.Gen.SwaKernel.Points
public import proofs.«01_k».proof.Proof.Gen.SwaKernel.Frame
public import proofs.«01_k».proof.Proof.Gen.SwaKernelIdeal
public import proofs.«01_k».proof.Proof.Gen.SwaKernelIdeal.Skeleton
public import proofs.«01_k».proof.Proof.Gen.SwaKernelIdeal.Launch
public import proofs.«01_k».proof.Proof.Gen.SwaKernelIdeal.Points
public import proofs.«01_k».proof.Proof.Gen.SwaKernelIdeal.Frame
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpReferenceIdeal
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.PoolKernel
public import proofs.«01_k».proof.Proof.Gen.PoolKernel.Skeleton
public import proofs.«01_k».proof.Proof.Gen.PoolKernel.Launch
public import proofs.«01_k».proof.Proof.Gen.PoolKernel.Points
public import proofs.«01_k».proof.Proof.Gen.PoolKernel.Frame
public import proofs.«01_k».proof.Proof.Gen.PoolKernelIdeal
public import proofs.«01_k».proof.Proof.Gen.PoolKernelIdeal.Skeleton
public import proofs.«01_k».proof.Proof.Gen.PoolKernelIdeal.Launch
public import proofs.«01_k».proof.Proof.Gen.PoolKernelIdeal.Points
public import proofs.«01_k».proof.Proof.Gen.PoolKernelIdeal.Frame
public import proofs.«01_k».proof.Proof.Gen.PoolKernelIdeal.Value
public import proofs.«01_k».proof.Proof.Gen.PoolReferenceIdeal
public import proofs.«01_k».proof.Proof.Gen.PoolReferenceIdeal.Run
public import proofs.«01_k».proof.Proof.Gen.Pre_finite
public import proofs.«01_k».proof.Proof.Gen.KeysKernel
public import proofs.«01_k».proof.Proof.Gen.KeysKernel.Skeleton
public import proofs.«01_k».proof.Proof.Gen.KeysKernel.Launch
public import proofs.«01_k».proof.Proof.Gen.KeysKernel.Points
public import proofs.«01_k».proof.Proof.Gen.KeysKernel.Frame
public import proofs.«01_k».proof.Proof.Gen.KeysKernelIdeal
public import proofs.«01_k».proof.Proof.Gen.KeysKernelIdeal.Skeleton
public import proofs.«01_k».proof.Proof.Gen.KeysKernelIdeal.Launch
public import proofs.«01_k».proof.Proof.Gen.KeysKernelIdeal.Points
public import proofs.«01_k».proof.Proof.Gen.KeysKernelIdeal.Frame
public import proofs.«01_k».proof.Proof.Gen.KeysKernelIdeal.Value
public import proofs.«01_k».proof.Proof.Gen.KeysReferenceIdeal
public import proofs.«01_k».proof.Proof.Gen.KeysReferenceIdeal.Run
public import proofs.«01_k».proof.Proof.MlpClaim
public import proofs.«01_k».proof.Proof.InClaim
public import proofs.«01_k».proof.Proof.PoolClaim
public import proofs.«01_k».proof.Proof.KeysClaim
public import Idealize.ShloMosaic.Adequacy
public import Idealize.ShloMosaic.Init

@[expose] public section

noncomputable section

namespace Cert.Proof

open Idealize.ShloMosaic Idealize.SL.Sem Cert.SwaKernel

/-- The attention's reference runs and leaves its arguments as they were. -/
theorem frame_swa_reference : Cert.quiescent_SwaReferenceIdeal := fun m ρ _ =>
  (θ_run Cert.SwaReferenceIdeal.defs _ _).mono (fun r h => ⟨fun c => (h c).2.2, sem_eq_zero_of_no_sems (by decide) r.2⟩)
    (Cert.SwaReferenceIdeal.Value.run (F := Ideal) m ρ)

/-- The merge's reference runs and leaves its arguments as they were. -/
theorem frame_mlp_reference : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

/-- The input projection's reference runs and leaves its arguments as they were. -/
theorem frame_in_reference : Cert.quiescent_InReferenceIdeal := fun m ρ _ =>
  (θ_run Cert.InReferenceIdeal.defs _ _).mono (fun r h => ⟨fun c => (h c).2.2, sem_eq_zero_of_no_sems (by decide) r.2⟩)
    (Cert.InReferenceIdeal.Value.run (F := Ideal) m ρ)

/-- The pooling's reference runs and leaves its arguments as they were. -/
theorem frame_pool_reference : Cert.quiescent_PoolReferenceIdeal := fun m ρ _ =>
  (θ_run Cert.PoolReferenceIdeal.defs _ _).mono (fun r h => ⟨fun c => (h c).2, sem_eq_zero_of_no_sems (by decide) r.2⟩)
    (Cert.PoolReferenceIdeal.Value.run (F := Ideal) m ρ)

/-- So it does on finite pooled rows. -/
theorem frame_pool_reference_finite : Cert.quiescent_PoolReferenceIdeal_pre_finite := fun m ρ _ =>
  (θ_run Cert.PoolReferenceIdeal.defs _ _).mono (fun r h => ⟨fun c => (h c).2, sem_eq_zero_of_no_sems (by decide) r.2⟩)
    (Cert.PoolReferenceIdeal.Value.run (F := Ideal) m ρ)

/-- The turned keys' reference runs and leaves its arguments as they were. -/
theorem frame_keys_reference : Cert.quiescent_KeysReferenceIdeal := fun m ρ _ =>
  (θ_run Cert.KeysReferenceIdeal.defs _ _).mono (fun r h => ⟨fun c => (h c).2, sem_eq_zero_of_no_sems (by decide) r.2⟩)
    (Cert.KeysReferenceIdeal.Value.run (F := Ideal) m ρ)

theorem claim : Cert.Claim := ⟨Cert.SwaKernel.Gen.facts, Cert.SwaKernelIdeal.Gen.facts, Cert.SwaReferenceIdeal.Gen.facts, Cert.MlpKernel.Gen.facts, Cert.MlpKernelIdeal.Gen.facts, Cert.MlpReferenceIdeal.Gen.facts, Cert.InKernel.Gen.facts, Cert.InKernelIdeal.Gen.facts, Cert.InReferenceIdeal.Gen.facts,
  Cert.PoolKernel.Gen.facts, Cert.PoolKernelIdeal.Gen.facts, Cert.PoolReferenceIdeal.Gen.facts,
  Cert.KeysKernel.Gen.facts, Cert.KeysKernelIdeal.Gen.facts, Cert.KeysReferenceIdeal.Gen.facts, Cert.Pre_finite.Gen.facts,
  fun m ρ _ => Cert.SwaKernel.Gen.frame m ρ, fun m ρ _ => Cert.SwaKernelIdeal.Gen.frame m ρ, frame_swa_reference,
  fun m ρ _ => Cert.MlpKernel.Gen.frame m ρ, fun m ρ _ => Cert.MlpKernelIdeal.Gen.frame m ρ, frame_mlp_reference,
  fun m ρ _ => Cert.InKernel.Gen.frame m ρ, fun m ρ _ => Cert.InKernelIdeal.Gen.frame m ρ, frame_in_reference,
  fun m ρ _ => Cert.PoolKernel.Gen.frame m ρ, fun m ρ _ => Cert.PoolKernelIdeal.Gen.frame m ρ, fun m ρ _ => Cert.PoolKernelIdeal.Gen.frame m ρ,
  frame_pool_reference, frame_pool_reference_finite,
  fun m ρ _ => Cert.KeysKernel.Gen.frame m ρ, fun m ρ _ => Cert.KeysKernelIdeal.Gen.frame m ρ, frame_keys_reference,
  IdealRules.named_const.statement _ _ .f32 _ _ rfl, trivial, Cert.MlpTie.algebraic, trivial, Cert.InTie.algebraic,
  trivial, Cert.PoolClaim.algebraic,
  IdealRules.named_const.statement _ _ .f32 _ _ rfl, Cert.KeysClaim.algebraic⟩

end Cert.Proof

end
